-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)) (v2 : (c : Dev Cert.Kernel5Ideal.nD) → Buf (Elt Ideal) ((c.tc : Thread Cert.Kernel5Ideal.nD Cert.Kernel5Ideal.τ).loc Cert.Kernel5Ideal.main_v19_2)) (v3 : (c : Dev Cert.Kernel5Ideal.nD) → Buf (Elt Ideal) ((c.tc : Thread Cert.Kernel5Ideal.nD Cert.Kernel5Ideal.τ).loc Cert.Kernel5Ideal.main_v19_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_v19_2) = v2 c
          ∧ r.2.mem ((c.tc : Thread Cert.Kernel5Ideal.nD Cert.Kernel5Ideal.τ).loc Cert.Kernel5Ideal.main_v19_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_v74) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_v36) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_v36) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v19_0)) (v1 : (c : Dev Cert.Kernel14Ideal.nD) → Buf (Elt Ideal) ((c.tc : Thread Cert.Kernel14Ideal.nD Cert.Kernel14Ideal.τ).loc Cert.Kernel14Ideal.main_v19_1)) (v2 : (c : Dev Cert.Kernel14Ideal.nD) → Buf (Elt Ideal) ((c.tc : Thread Cert.Kernel14Ideal.nD Cert.Kernel14Ideal.τ).loc Cert.Kernel14Ideal.main_v19_2)) (v3 : (c : Dev Cert.Kernel14Ideal.nD) → Buf (Elt Ideal) ((c.tc : Thread Cert.Kernel14Ideal.nD Cert.Kernel14Ideal.τ).loc Cert.Kernel14Ideal.main_v19_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v19_0) = v0 c
          ∧ r.2.mem ((c.tc : Thread Cert.Kernel14Ideal.nD Cert.Kernel14Ideal.τ).loc Cert.Kernel14Ideal.main_v19_1) = v1 c
          ∧ r.2.mem ((c.tc : Thread Cert.Kernel14Ideal.nD Cert.Kernel14Ideal.τ).loc Cert.Kernel14Ideal.main_v19_2) = v2 c
          ∧ r.2.mem ((c.tc : Thread Cert.Kernel14Ideal.nD Cert.Kernel14Ideal.τ).loc Cert.Kernel14Ideal.main_v19_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v69) = v0 c
          ∧ r.2.mem ((c.tc : Thread Cert.Reference14Ideal.nD Cert.Reference14Ideal.τ).loc Cert.Reference14Ideal.main_v45) = v1 c
          ∧ r.2.mem ((c.tc : Thread Cert.Reference14Ideal.nD Cert.Reference14Ideal.τ).loc Cert.Reference14Ideal.main_v41) = v2 c
          ∧ r.2.mem ((c.tc : Thread Cert.Reference14Ideal.nD Cert.Reference14Ideal.τ).loc Cert.Reference14Ideal.main_v74) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v19_0)) (v1 : (c : Dev Cert.Kernel15Ideal.nD) → Buf (Elt Ideal) ((c.tc : Thread Cert.Kernel15Ideal.nD Cert.Kernel15Ideal.τ).loc Cert.Kernel15Ideal.main_v19_1)) (v2 : (c : Dev Cert.Kernel15Ideal.nD) → Buf (Elt Ideal) ((c.tc : Thread Cert.Kernel15Ideal.nD Cert.Kernel15Ideal.τ).loc Cert.Kernel15Ideal.main_v19_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v19_0) = v0 c
          ∧ r.2.mem ((c.tc : Thread Cert.Kernel15Ideal.nD Cert.Kernel15Ideal.τ).loc Cert.Kernel15Ideal.main_v19_1) = v1 c
          ∧ r.2.mem ((c.tc : Thread Cert.Kernel15Ideal.nD Cert.Kernel15Ideal.τ).loc Cert.Kernel15Ideal.main_v19_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v69) = v0 c
          ∧ r.2.mem ((c.tc : Thread Cert.Reference15Ideal.nD Cert.Reference15Ideal.τ).loc Cert.Reference15Ideal.main_v45) = v1 c
          ∧ r.2.mem ((c.tc : Thread Cert.Reference15Ideal.nD Cert.Reference15Ideal.τ).loc Cert.Reference15Ideal.main_v41) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_v36) = v1 c
          ∧ r.2.mem ((c.tc : Thread Cert.Reference18Ideal.nD Cert.Reference18Ideal.τ).loc Cert.Reference18Ideal.main_v17) = v2 c
          ∧ r.2.mem ((c.tc : Thread Cert.Reference18Ideal.nD Cert.Reference18Ideal.τ).loc Cert.Reference18Ideal.main_v23) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite5 : Cert.Pre_finite5.Facts) (hPre_finite14 : Cert.Pre_finite14.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S8192x1024 : Shape := ⟨2, ![8192, 1024]⟩
abbrev S1024x2048 : Shape := ⟨2, ![1024, 2048]⟩
abbrev S_ : Shape := ⟨0, ![]⟩
abbrev S1024x1024 : Shape := ⟨2, ![1024, 1024]⟩

class Facts : Prop where
  bcast_S_S8192x1024 : S_.BroadcastsInDim S8192x1024 (![] : Fin 0 → Fin S8192x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x2048 .bf16) (main_arg2 : FVec F S8192x1024 .bf16) : IVec S8192x1024 1 × IVec S1024x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S1024x1024 .bf16 := (extractStridedSlice S1024x1024 ![0, 0] · slices_S1024x2048_S1024x1024_0_0) main_arg1
  let main_v4 : FVec F S1024x1024 .bf16 := Host.absf main_v3
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  (main_v2, main_v6)
-- ==== Pre_finite14.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1024 .f32) (main_arg2 : FVec F S1024x1024 .bf16) (main_arg3 : FVec F S1024x1024 .bf16) (main_arg4 : FVec F S8192x1024 .f32) (main_arg5 : FVec F S8192x1024 .bf16) : IVec S1024 1 × IVec S1024x1024 1 × IVec S8192x1024 1 × IVec S8192x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .bf16 := Host.absf main_arg2
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S8192x1024 .f32 := Host.absf main_arg4
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .bf16 := Host.absf main_arg5
  let main_cst_2 : FVec F S_ .bf16 := constant S_ .bf16 0x7F80#16
  let main_v10 : FVec F S8192x1024 .bf16 := broadcastInDim S8192x1024 ![] bcast_S_S8192x1024 main_cst_2
  let main_v11 : IVec S8192x1024 1 := cmpf .olt main_v9 main_v10
  (main_v2, main_v5, main_v8, main_v11)
-- ==== Pre_finite15.lean ====
abbrev S8192x1024 : Shape := ⟨2, ![8192, 1024]⟩
abbrev S1024 : Shape := ⟨1, ![1024]⟩
abbrev S1024x2432 : Shape := ⟨2, ![1024, 2432]⟩
abbrev S8192x2432 : Shape := ⟨2, ![8192, 2432]⟩
abbrev S_ : Shape := ⟨0, ![]⟩

class Facts : Prop where
  bcast_S_S1024 : S_.BroadcastsInDim S1024 (![] : Fin 0 → Fin S1024.rank)
  bcast_S_S1024x2432 : S_.BroadcastsInDim S1024x2432 (![] : Fin 0 → Fin S1024x2432.rank)
  bcast_S_S8192x1024 : S_.BroadcastsInDim S8192x1024 (![] : Fin 0 → Fin S8192x1024.rank)
  bcast_S_S8192x2432 : S_.BroadcastsInDim S8192x2432 (![] : Fin 0 → Fin S8192x2432.rank)

variable [Facts]

def fn {F : FTy → Type} [FloatOps F] (main_arg0 : FVec F S8192x1024 .f32) (main_arg1 : FVec F S1024 .f32) (main_arg2 : FVec F S1024x2432 .bf16) (main_arg3 : FVec F S8192x1024 .f32) (main_arg4 : FVec F S8192x2432 .bf16) : IVec S1024 1 × IVec S1024x2432 1 × IVec S8192x1024 1 × IVec S8192x2432 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2432 .bf16 := Host.absf main_arg2
  let main_cst_0 : FVec F S_ .bf16 := constant S_ .bf16 0x7F80#16
  let main_v4 : FVec F S1024x2432 .bf16 := broadcastInDim S1024x2432 ![] bcast_S_S1024x2432 main_cst_0
  let main_v5 : IVec S1024x2432 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x2432 .bf16 := Host.absf main_arg4
  let main_cst_2 : FVec F S_ .bf16 := constant S_ .bf16 0x7F80#16
  let main_v10 : FVec F S8192x2432 .bf16 := broadcastInDim S8192x2432 ![] bcast_S_S8192x2432 main_cst_2
  let main_v11 : IVec S8192x2432 1 := cmpf .olt main_v9 main_v10
  (main_v2, main_v5, main_v8, main_v11)
-- ==== Pre_finite5.lean ====
abbrev S8192x1024 : Shape := ⟨2, ![8192, 1024]⟩
abbrev S1024 : Shape := ⟨1, ![1024]⟩
abbrev S1024x4096 : Shape := ⟨2, ![1024, 4096]⟩
abbrev S1024x1024 : Shape := ⟨2, ![1024, 1024]⟩
abbrev S8192x4096 : Shape := ⟨2, ![8192, 4096]⟩
abbrev S_ : Shape := ⟨0, ![]⟩

class Facts : Prop where
  bcast_S_S1024 : S_.BroadcastsInDim S1024 (![] : Fin 0 → Fin S1024.rank)
  bcast_S_S1024x4096 : S_.BroadcastsInDim S1024x4096 (![] : Fin 0 → Fin S1024x4096.rank)
  bcast_S_S8192x1024 : S_.BroadcastsInDim S8192x1024 (![] : Fin 0 → Fin S8192x1024.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1024x4096 .bf16) (main_arg3 : FVec F S1024x1024 .bf16) (main_arg4 : FVec F S8192x1024 .f32) (main_arg5 : FVec F S8192x4096 .bf16) : IVec S1024 1 × IVec S1024x4096 1 × IVec S8192x1024 1 × IVec S8192x4096 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4096 .bf16 := Host.absf main_arg2
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S8192x1024 .f32 := Host.absf main_arg4
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x4096 .bf16 := Host.absf main_arg5
  let main_cst_2 : FVec F S_ .bf16 := constant S_ .bf16 0x7F80#16
  let main_v10 : FVec F S8192x4096 .bf16 := broadcastInDim S8192x4096 ![] bcast_S_S8192x4096 main_cst_2
  let main_v11 : IVec S8192x4096 1 := cmpf .olt main_v9 main_v10
  (main_v2, main_v5, main_v8, main_v11)
-- ==== Kernel.lean ====
abbrev S8192x1024 : Shape := ⟨2, ![8192, 1024]⟩
abbrev S1024x2048 : Shape := ⟨2, ![1024, 2048]⟩
abbrev S512x1024 : Shape := ⟨2, ![512, 1024]⟩
abbrev S256x1024 : Shape := ⟨2, ![256, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S256x2048, .f32⟩
  | .local _ .vmem, ⟨11, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x2048x1024 : Shape := ⟨3, ![4, 2048, 1024]⟩
abbrev S4x4x256x256 : Shape := ⟨4, ![4, 4, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .f32⟩
  | .hbm, ⟨4, _⟩ => ⟨S1024x2048, .f32⟩
  | .hbm, ⟨5, _⟩ => ⟨S4x2048x4x256, .f32⟩
  | .hbm, ⟨6, _⟩ => ⟨S4x256x2048, .f32⟩
  | .hbm, ⟨7, _⟩ => ⟨S4x256x1024, .f32⟩
  | .hbm, ⟨8, _⟩ => ⟨S4x256x1024, .f32⟩
  | .hbm, ⟨9, _⟩ => ⟨S4x256x4x256, .f32⟩
  | .hbm, ⟨10, _⟩ => ⟨S4x256x4x256, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .i1⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .i1⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x256, .f32⟩
  | .hbm, ⟨42, _⟩ => ⟨S4x4x2048x256, .f32⟩
  | .hbm, ⟨43, _⟩ => ⟨S4x4x2048x256, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x2048x1, .f32⟩
  | .hbm, ⟨50, _⟩ => ⟨S_, .f32⟩
  | .hbm, ⟨51, _⟩ => ⟨S4x4x2048x1, .f32⟩
  | .hbm, ⟨52, _⟩ => ⟨S4x4x2048x1, .f32⟩
  | .hbm, ⟨53, _⟩ => ⟨S4x4x256x2048, .f32⟩
  | .hbm, ⟨54, _⟩ => ⟨S4x2048x4x256, .f32⟩
  | .hbm, ⟨55, _⟩ => ⟨S4x2048x1024, .f32⟩
  | .hbm, ⟨56, _⟩ => ⟨S8192x1024, .f32⟩
  | .hbm, ⟨57, _⟩ => ⟨S8192x1024, .f32⟩
  | .hbm, ⟨58, _⟩ => ⟨S4x2048x1024, .f32⟩
  | .hbm, ⟨59, _⟩ => ⟨S4x2048x4x256, .f32⟩
  | .hbm, ⟨60, _⟩ => ⟨S4x4x256x2048, .f32⟩
  | .hbm, ⟨61, _⟩ => ⟨S4x4x2048x256, .f32⟩
  | .hbm, ⟨62, _⟩ => ⟨S4x4x256x256, .f32⟩
  | .hbm, ⟨63, _⟩ => ⟨S4x256x4x256, .f32⟩
  | .hbm, ⟨64, _⟩ => ⟨S4x4x2048x256, .f32⟩
  | .hbm, ⟨65, _⟩ => ⟨S4x4x2048x256, .f32⟩
  | .hbm, ⟨66, _⟩ => ⟨S4x4x2048x256, .f32⟩
  | .hbm, ⟨67, _⟩ => ⟨S_, .f32⟩
  | .hbm, ⟨68, _⟩ => ⟨S4x4x2048, .f32⟩
  | .hbm, ⟨69, _⟩ => ⟨S4x4x2048x1, .f32⟩
  | .hbm, ⟨70, _⟩ => ⟨S4x4x2048x1, .f32⟩
  | .hbm, ⟨71, _⟩ => ⟨S4x4x2048x256, .f32⟩
  | .hbm, ⟨72, _⟩ => ⟨S4x4x2048x256, .f32⟩
  | .hbm, ⟨73, _⟩ => ⟨S_, .f32⟩
  | .hbm, ⟨74, _⟩ => ⟨S4x4x2048, .f32⟩
  | .hbm, ⟨75, _⟩ => ⟨S4x4x2048x256, .f32⟩
  | .hbm, ⟨76, _⟩ => ⟨S4x4x2048x256, .f32⟩
  | .hbm, ⟨77, _⟩ => ⟨S4x4x2048x256, .f32⟩
  | .hbm, ⟨78, _⟩ => ⟨S_, .f32⟩
  | .hbm, ⟨79, _⟩ => ⟨S4x4x2048x256, .f32⟩
  | .hbm, ⟨80, _⟩ => ⟨S4x4x2048x256, .f32⟩
  | .hbm, ⟨81, _⟩ => ⟨S4x4x256x256, .f32⟩
  | .hbm, ⟨82, _⟩ => ⟨S4x256x4x256, .f32⟩
  | .hbm, ⟨83, _⟩ => ⟨S4x4x2048x256, .f32⟩
  | .hbm, ⟨84, _⟩ => ⟨S4x2048x4x256, .f32⟩
  | .hbm, ⟨85, _⟩ => ⟨S4x256x1024, .f32⟩
  | .hbm, ⟨86, _⟩ => ⟨S4x256x1024, .f32⟩
  | .hbm, ⟨87, _⟩ => ⟨S4x256x2048, .f32⟩
  | .hbm, ⟨88, _⟩ => ⟨S1024x2048, .f32⟩
  | .hbm, ⟨89, _⟩ => ⟨S8192x1024, .f32⟩
  | .hbm, ⟨90, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== Kernel2.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S1024x4096, .f32⟩
  | .hbm, ⟨11, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S4x2x1024x512 : Shape := ⟨4, ![4, 2, 1024, 512]⟩
abbrev S1024x1024 : Shape := ⟨2, ![1024, 1024]⟩
abbrev S1024x4096 : Shape := ⟨2, ![1024, 4096]⟩
abbrev S1x1x1024x512 : Shape := ⟨4, ![1, 1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4x2x1024x512, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1024x4096, .bf16⟩
  | .local _ .vmem, ⟨4, _⟩ => ⟨S4x2x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x2x512 : Shape := ⟨4, ![1024, 4, 2, 512]⟩
abbrev S4x2x1024x512 : Shape := ⟨4, ![4, 2, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S8192x4096, .f32⟩
  | .hbm, ⟨6, _⟩ => ⟨S4096x1024, .f32⟩
  | .hbm, ⟨7, _⟩ => ⟨S1024x4096, .f32⟩
  | .hbm, ⟨8, _⟩ => ⟨S1024x4x2x512, .f32⟩
  | .hbm, ⟨9, _⟩ => ⟨S4x2x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x4096 : Shape := ⟨2, ![1024, 4096]⟩
abbrev S1024x1024 : Shape := ⟨2, ![1024, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S512x1024 : Shape := ⟨2, ![512, 1024]⟩
abbrev S512x4096 : Shape := ⟨2, ![512, 4096]⟩
abbrev S512x1 : Shape := ⟨2, ![512, 1]⟩
abbrev S64x8x1024 : Shape := ⟨3, ![64, 8, 1024]⟩
abbrev S512 : Shape := ⟨1, ![512]⟩

abbrev nBuf : Space → Nat
  | .hbm => 34
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S1024x1024, .bf16⟩
  | .hbm, ⟨4, _⟩ => ⟨S8192x1024, .f32⟩
  | .hbm, ⟨5, _⟩ => ⟨S8192x4096, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8x1024, .f32⟩
  | .hbm, ⟨32, _⟩ => ⟨S8x1024, .f32⟩
  | .hbm, ⟨33, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S1024x4096, .bf16⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024, .f32⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S8192x1024 : Shape := ⟨2, ![8192, 1024]⟩
abbrev S1024 : Shape := ⟨1, ![1024]⟩
abbrev S1024x4096 : Shape := ⟨2, ![1024, 4096]⟩
abbrev S1024x1024 : Shape := ⟨2, ![1024, 1024]⟩
abbrev S8192x4096 : Shape := ⟨2, ![8192, 4096]⟩
abbrev S8x1024 : Shape := ⟨2, ![8, 1024]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S1024x1024, .bf16⟩
  | .hbm, ⟨4, _⟩ => ⟨S8192x1024, .f32⟩
  | .hbm, ⟨5, _⟩ => ⟨S8192x4096, .bf16⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1024x8x1024, .f32⟩
  | .hbm, ⟨40, _⟩ => ⟨S8192x1024, .f32⟩
  | .hbm, ⟨41, _⟩ => ⟨S8192x1024, .f32⟩
  | .hbm, ⟨42, _⟩ => ⟨S1024x8x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1024x4096, .f32⟩
  | .hbm, ⟨49, _⟩ => ⟨S8192x4096, .f32⟩
  | .hbm, ⟨50, _⟩ => ⟨S8192x4096, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1024x8x1024, .f32⟩
  | .hbm, ⟨57, _⟩ => ⟨S_, .f32⟩
  | .hbm, ⟨58, _⟩ => ⟨S8x1024, .f32⟩
  | .hbm, ⟨59, _⟩ => ⟨S8192x1024, .f32⟩
  | .hbm, ⟨60, _⟩ => ⟨S8192x1024, .f32⟩
  | .hbm, ⟨61, _⟩ => ⟨S1024x8x1024, .f32⟩
  | .hbm, ⟨62, _⟩ => ⟨S_, .f32⟩
  | .hbm, ⟨63, _⟩ => ⟨S8x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192x1024, .f32⟩
  | .hbm, ⟨97, _⟩ => ⟨S1024x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_18 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S1x1024 : Shape := ⟨2, ![1, 1024]⟩
abbrev S8192x1 : Shape := ⟨2, ![8192, 1]⟩
abbrev S8192x4096 : Shape := ⟨2, ![8192, 4096]⟩
abbrev S512x1024 : Shape := ⟨2, ![512, 1024]⟩
abbrev S512x1 : Shape := ⟨2, ![512, 1]⟩
abbrev S512x4096 : Shape := ⟨2, ![512, 4096]⟩
abbrev S512 : Shape := ⟨1, ![512]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x4096, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1, .f32⟩
  | .hbm, ⟨11, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x4096, .bf16⟩
  | .local _ .vmem, ⟨15, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x4096, .bf16⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x4096, .f32⟩
  | .hbm, ⟨47, _⟩ => ⟨S8192x4096, .f32⟩
  | .hbm, ⟨48, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel7.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S8192x1 : Shape := ⟨2, ![8192, 1]⟩
abbrev S512x4096 : Shape := ⟨2, ![512, 4096]⟩
abbrev S512x1024 : Shape := ⟨2, ![512, 1024]⟩
abbrev S512x1 : Shape := ⟨2, ![512, 1]⟩
abbrev S512 : Shape := ⟨1, ![512]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S4096x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1, .f32⟩
  | .hbm, ⟨11, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x1024, .f32⟩
  | .hbm, ⟨47, _⟩ => ⟨S8192x1024, .f32⟩
  | .hbm, ⟨48, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel9.lean ====
abbrev S8192x1024 : Shape := ⟨2, ![8192, 1024]⟩
abbrev S1024x2432 : Shape := ⟨2, ![1024, 2432]⟩
abbrev S8192x2432 : Shape := ⟨2, ![8192, 2432]⟩
abbrev S512x1024 : Shape := ⟨2, ![512, 1024]⟩
abbrev S512x2432 : Shape := ⟨2, ![512, 2432]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2432, .bf16⟩
  | .hbm, ⟨2, _⟩ => ⟨S8192x2432, .bf16⟩
  | .local _ .vmem, ⟨0, _⟩ => ⟨S512x1024, .f32⟩
  | .local _ .vmem, ⟨1, _⟩ => ⟨S512x1024, .f32⟩
  | .local _ .vmem, ⟨2, _⟩ => ⟨S1024x2432, .bf16⟩
  | .local _ .vmem, ⟨3, _⟩ => ⟨S512x2432, .bf16⟩
  | .local _ .vmem, ⟨4, _⟩ => ⟨S512x2432, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x1024 : Shape := ⟨2, ![8192, 1024]⟩
abbrev S1024x2432 : Shape := ⟨2, ![1024, 2432]⟩
abbrev S8192x2432 : Shape := ⟨2, ![8192, 2432]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2432, .bf16⟩
  | .hbm, ⟨2, _⟩ => ⟨S1024x2432, .f32⟩
  | .hbm, ⟨3, _⟩ => ⟨S8192x2432, .f32⟩
  | .hbm, ⟨4, _⟩ => ⟨S8192x2432, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S8192x2432 : Shape := ⟨2, ![8192, 2432]⟩
abbrev S1024x2432 : Shape := ⟨2, ![1024, 2432]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x2432, .bf16⟩
  | .hbm, ⟨2, _⟩ => ⟨S1024x2432, .f32⟩
  | .local _ .vmem, ⟨0, _⟩ => ⟨S1024x1024, .f32⟩
  | .local _ .vmem, ⟨1, _⟩ => ⟨S1024x1024, .f32⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x2432 : Shape := ⟨2, ![8192, 2432]⟩
abbrev S_ : Shape := ⟨0, ![]⟩
abbrev S1024x2432 : Shape := ⟨2, ![1024, 2432]⟩
abbrev S2432x1024 : Shape := ⟨2, ![2432, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2432, .bf16⟩
  | .hbm, ⟨2, _⟩ => ⟨S_, .f32⟩
  | .hbm, ⟨3, _⟩ => ⟨S1024x2432, .f32⟩
  | .hbm, ⟨4, _⟩ => ⟨S8192x2432, .f32⟩
  | .hbm, ⟨5, _⟩ => ⟨S8192x2432, .f32⟩
  | .hbm, ⟨6, _⟩ => ⟨S2432x1024, .f32⟩
  | .hbm, ⟨7, _⟩ => ⟨S1024x2432, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S8192x2432 : Shape := ⟨2, ![8192, 2432]⟩
abbrev S1024x2432 : Shape := ⟨2, ![1024, 2432]⟩
abbrev S512x1024 : Shape := ⟨2, ![512, 1024]⟩
abbrev S512x2432 : Shape := ⟨2, ![512, 2432]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2432, .bf16⟩
  | .hbm, ⟨2, _⟩ => ⟨S1024x2432, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x2432, .bf16⟩
  | .local _ .vmem, ⟨3, _⟩ => ⟨S512x2432, .bf16⟩
  | .local _ .vmem, ⟨4, _⟩ => ⟨S1024x2432, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8192x1024 : Shape := ⟨2, ![8192, 1024]⟩
abbrev S8192x2432 : Shape := ⟨2, ![8192, 2432]⟩
abbrev S1024x2432 : Shape := ⟨2, ![1024, 2432]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2432, .bf16⟩
  | .hbm, ⟨2, _⟩ => ⟨S1024x2432, .bf16⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S1024x2432, .f32⟩
  | .hbm, ⟨9, _⟩ => ⟨S8192x2432, .f32⟩
  | .hbm, ⟨10, _⟩ => ⟨S8192x2432, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S512x1024 : Shape := ⟨2, ![512, 1024]⟩
abbrev S512x1 : Shape := ⟨2, ![512, 1]⟩
abbrev S64x8x1024 : Shape := ⟨3, ![64, 8, 1024]⟩
abbrev S512 : Shape := ⟨1, ![512]⟩

abbrev nBuf : Space → Nat
  | .hbm => 34
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .bf16⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8x1024, .f32⟩
  | .hbm, ⟨32, _⟩ => ⟨S8x1024, .f32⟩
  | .hbm, ⟨33, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024, .f32⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S8192x1024 : Shape := ⟨2, ![8192, 1024]⟩
abbrev S1024 : Shape := ⟨1, ![1024]⟩
abbrev S1024x1024 : Shape := ⟨2, ![1024, 1024]⟩
abbrev S8x1024 : Shape := ⟨2, ![8, 1024]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .bf16⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1024x8x1024, .f32⟩
  | .hbm, ⟨40, _⟩ => ⟨S8192x1024, .f32⟩
  | .hbm, ⟨41, _⟩ => ⟨S8192x1024, .f32⟩
  | .hbm, ⟨42, _⟩ => ⟨S1024x8x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1024x8x1024, .f32⟩
  | .hbm, ⟨57, _⟩ => ⟨S_, .f32⟩
  | .hbm, ⟨58, _⟩ => ⟨S8x1024, .f32⟩
  | .hbm, ⟨59, _⟩ => ⟨S8192x1024, .f32⟩
  | .hbm, ⟨60, _⟩ => ⟨S8192x1024, .f32⟩
  | .hbm, ⟨61, _⟩ => ⟨S1024x8x1024, .f32⟩
  | .hbm, ⟨62, _⟩ => ⟨S_, .f32⟩
  | .hbm, ⟨63, _⟩ => ⟨S8x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192x1024, .f32⟩
  | .hbm, ⟨97, _⟩ => ⟨S1024x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_18 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S1024x2432 : Shape := ⟨2, ![1024, 2432]⟩
abbrev S8192x2432 : Shape := ⟨2, ![8192, 2432]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S512x1024 : Shape := ⟨2, ![512, 1024]⟩
abbrev S512x2432 : Shape := ⟨2, ![512, 2432]⟩
abbrev S512x1 : Shape := ⟨2, ![512, 1]⟩
abbrev S64x8x1024 : Shape := ⟨3, ![64, 8, 1024]⟩
abbrev S512 : Shape := ⟨1, ![512]⟩

abbrev nBuf : Space → Nat
  | .hbm => 32
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2432, .bf16⟩
  | .hbm, ⟨3, _⟩ => ⟨S8192x1024, .f32⟩
  | .hbm, ⟨4, _⟩ => ⟨S8192x2432, .bf16⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8x1024, .f32⟩
  | .hbm, ⟨31, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2432, .bf16⟩
  | .local _ .vmem, ⟨3, _⟩ => ⟨S512x2432, .bf16⟩
  | .local _ .vmem, ⟨4, _⟩ => ⟨S1024x2432, .bf16⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference15Ideal.lean ====
abbrev S8192x1024 : Shape := ⟨2, ![8192, 1024]⟩
abbrev S1024 : Shape := ⟨1, ![1024]⟩
abbrev S1024x2432 : Shape := ⟨2, ![1024, 2432]⟩
abbrev S8192x2432 : Shape := ⟨2, ![8192, 2432]⟩
abbrev S8x1024 : Shape := ⟨2, ![8, 1024]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2432, .bf16⟩
  | .hbm, ⟨3, _⟩ => ⟨S8192x1024, .f32⟩
  | .hbm, ⟨4, _⟩ => ⟨S8192x2432, .bf16⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1024x8x1024, .f32⟩
  | .hbm, ⟨39, _⟩ => ⟨S8192x1024, .f32⟩
  | .hbm, ⟨40, _⟩ => ⟨S8192x1024, .f32⟩
  | .hbm, ⟨41, _⟩ => ⟨S1024x8x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S1024x2432, .f32⟩
  | .hbm, ⟨48, _⟩ => ⟨S8192x2432, .f32⟩
  | .hbm, ⟨49, _⟩ => ⟨S8192x2432, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x8x1024, .f32⟩
  | .hbm, ⟨56, _⟩ => ⟨S_, .f32⟩
  | .hbm, ⟨57, _⟩ => ⟨S8x1024, .f32⟩
  | .hbm, ⟨58, _⟩ => ⟨S8192x1024, .f32⟩
  | .hbm, ⟨59, _⟩ => ⟨S8192x1024, .f32⟩
  | .hbm, ⟨60, _⟩ => ⟨S1024x8x1024, .f32⟩
  | .hbm, ⟨61, _⟩ => ⟨S_, .f32⟩
  | .hbm, ⟨62, _⟩ => ⟨S8x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1024, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Kernel17.lean ====
abbrev S2312x128 : Shape := ⟨2, ![2312, 128]⟩
abbrev S8x2312x128 : Shape := ⟨3, ![8, 2312, 128]⟩
abbrev S1x2312x128 : Shape := ⟨3, ![1, 2312, 128]⟩

abbrev nBuf : Space → Nat
  | .hbm => 8
  | .vmem => 15
  | .smem => 0
  | _ => 0

abbrev bufTy : (tb : Table) → Fin (tcTables nBuf tb) → BufTy
  | .hbm, ⟨0, _⟩ => ⟨S2312x128, .f32⟩
  | .hbm, ⟨1, _⟩ => ⟨S2312x128, .f32⟩
  | .hbm, ⟨2, _⟩ => ⟨S2312x128, .f32⟩
  | .hbm, ⟨3, _⟩ => ⟨S8x2312x128, .f32⟩
  | .hbm, ⟨4, _⟩ => ⟨S2312x128, .f32⟩
  | .hbm, ⟨5, _⟩ => ⟨S2312x128, .f32⟩
  | .hbm, ⟨6, _⟩ => ⟨S2312x128, .f32⟩
  | .hbm, ⟨7, _⟩ => ⟨S2312x128, .f32⟩
  | .local _ .vmem, ⟨0, _⟩ => ⟨S2312x128, .f32⟩
  | .local _ .vmem, ⟨1, _⟩ => ⟨S2312x128, .f32⟩
  | .local _ .vmem, ⟨2, _⟩ => ⟨S2312x128, .f32⟩
  | .local _ .vmem, ⟨3, _⟩ => ⟨S1x2312x128, .f32⟩
  | .local _ .vmem, ⟨4, _⟩ => ⟨S1x2312x128, .f32⟩
  | .local _ .vmem, ⟨5, _⟩ => ⟨S1x2312x128, .f32⟩
  | .local _ .vmem, ⟨6, _⟩ => ⟨S1x2312x128, .f32⟩
  | .local _ .vmem, ⟨7, _⟩ => ⟨S1x2312x128, .f32⟩
  | .local _ .vmem, ⟨8, _⟩ => ⟨S1x2312x128, .f32⟩
  | .local _ .vmem, ⟨9, _⟩ => ⟨S1x2312x128, .f32⟩
  | .local _ .vmem, ⟨10, _⟩ => ⟨S1x2312x128, .f32⟩
  | .local _ .vmem, ⟨11, _⟩ => ⟨S2312x128, .f32⟩
  | .local _ .vmem, ⟨12, _⟩ => ⟨S2312x128, .f32⟩
  | .local _ .vmem, ⟨13, _⟩ => ⟨S2312x128, .f32⟩
  | .local _ .vmem, ⟨14, _⟩ => ⟨S2312x128, .f32⟩
  | _, _ => ⟨S2312x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2312x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2312x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2312x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2312x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2312x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2312x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2312x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2312x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x2312x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x2312x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x2312x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S2312x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S2312x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S2312x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S2312x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference17Ideal.lean ====
abbrev S2312x128 : Shape := ⟨2, ![2312, 128]⟩
abbrev S8x2312x128 : Shape := ⟨3, ![8, 2312, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2312x128, .f32⟩
  | .hbm, ⟨1, _⟩ => ⟨S2312x128, .f32⟩
  | .hbm, ⟨2, _⟩ => ⟨S2312x128, .f32⟩
  | .hbm, ⟨3, _⟩ => ⟨S8x2312x128, .f32⟩
  | .hbm, ⟨4, _⟩ => ⟨S_, .f32⟩
  | .hbm, ⟨5, _⟩ => ⟨S2312x128, .f32⟩
  | .hbm, ⟨6, _⟩ => ⟨S_, .f32⟩
  | .hbm, ⟨7, _⟩ => ⟨S2312x128, .f32⟩
  | .hbm, ⟨8, _⟩ => ⟨S2312x128, .f32⟩
  | .hbm, ⟨9, _⟩ => ⟨S_, .f32⟩
  | .hbm, ⟨10, _⟩ => ⟨S2312x128, .f32⟩
  | .hbm, ⟨11, _⟩ => ⟨S2312x128, .f32⟩
  | .hbm, ⟨12, _⟩ => ⟨S2312x128, .f32⟩
  | .hbm, ⟨13, _⟩ => ⟨S_, .f32⟩
  | .hbm, ⟨14, _⟩ => ⟨S2312x128, .f32⟩
  | .hbm, ⟨15, _⟩ => ⟨S2312x128, .f32⟩
  | .hbm, ⟨16, _⟩ => ⟨S2312x128, .f32⟩
  | .hbm, ⟨17, _⟩ => ⟨S_, .f32⟩
  | .hbm, ⟨18, _⟩ => ⟨S2312x128, .f32⟩
  | .hbm, ⟨19, _⟩ => ⟨S2312x128, .f32⟩
  | .hbm, ⟨20, _⟩ => ⟨S2312x128, .f32⟩
  | .hbm, ⟨21, _⟩ => ⟨S_, .f32⟩
  | .hbm, ⟨22, _⟩ => ⟨S2312x128, .f32⟩
  | .hbm, ⟨23, _⟩ => ⟨S2312x128, .f32⟩
  | .hbm, ⟨24, _⟩ => ⟨S_, .f32⟩
  | .hbm, ⟨25, _⟩ => ⟨S2312x128, .f32⟩
  | .hbm, ⟨26, _⟩ => ⟨S2312x128, .f32⟩
  | .hbm, ⟨27, _⟩ => ⟨S2312x128, .f32⟩
  | .hbm, ⟨28, _⟩ => ⟨S_, .f32⟩
  | .hbm, ⟨29, _⟩ => ⟨S2312x128, .f32⟩
  | .hbm, ⟨30, _⟩ => ⟨S2312x128, .f32⟩
  | .hbm, ⟨31, _⟩ => ⟨S2312x128, .f32⟩
  | .hbm, ⟨32, _⟩ => ⟨S_, .f32⟩
  | .hbm, ⟨33, _⟩ => ⟨S2312x128, .f32⟩
  | .hbm, ⟨34, _⟩ => ⟨S2312x128, .f32⟩
  | .hbm, ⟨35, _⟩ => ⟨S2312x128, .f32⟩
  | .hbm, ⟨36, _⟩ => ⟨S_, .f32⟩
  | .hbm, ⟨37, _⟩ => ⟨S2312x128, .f32⟩
  | .hbm, ⟨38, _⟩ => ⟨S2312x128, .f32⟩
  | _, _ => ⟨S2312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S4x128x1024 : Shape := ⟨3, ![4, 128, 1024]⟩
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 15
  | .vmem => 46
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S3x128x1024, .bf16⟩
  | .hbm, ⟨8, _⟩ => ⟨S3x128x1024, .bf16⟩
  | .hbm, ⟨9, _⟩ => ⟨S3x128x1024, .bf16⟩
  | .hbm, ⟨10, _⟩ => ⟨S3x128x1024, .bf16⟩
  | .hbm, ⟨11, _⟩ => ⟨S4x128x1024, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S1x128x1024, .bf16⟩
  | .local _ .vmem, ⟨15, _⟩ => ⟨S1x128x1024, .bf16⟩
  | .local _ .vmem, ⟨16, _⟩ => ⟨S1x128x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x128x1024, .bf16⟩
  | .local _ .vmem, ⟨21, _⟩ => ⟨S1x128x1024, .bf16⟩
  | .local _ .vmem, ⟨22, _⟩ => ⟨S1x128x1024, .bf16⟩
  | .local _ .vmem, ⟨23, _⟩ => ⟨S1x128x1024, .bf16⟩
  | .local _ .vmem, ⟨24, _⟩ => ⟨S1x128x1024, .bf16⟩
  | .local _ .vmem, ⟨25, _⟩ => ⟨S1x128x1024, .bf16⟩
  | .local _ .vmem, ⟨26, _⟩ => ⟨S1x128x1024, .bf16⟩
  | .local _ .vmem, ⟨27, _⟩ => ⟨S1x128x1024, .bf16⟩
  | .local _ .vmem, ⟨28, _⟩ => ⟨S1x128x1024, .bf16⟩
  | .local _ .vmem, ⟨29, _⟩ => ⟨S1x128x1024, .bf16⟩
  | .local _ .vmem, ⟨30, _⟩ => ⟨S1x128x1024, .bf16⟩
  | .local _ .vmem, ⟨31, _⟩ => ⟨S1x128x1024, .bf16⟩
  | .local _ .vmem, ⟨32, _⟩ => ⟨S1x128x1024, .bf16⟩
  | .local _ .vmem, ⟨33, _⟩ => ⟨S1x128x1024, .bf16⟩
  | .local _ .vmem, ⟨34, _⟩ => ⟨S1x128x1024, .bf16⟩
  | .local _ .vmem, ⟨35, _⟩ => ⟨S1x128x1024, .bf16⟩
  | .local _ .vmem, ⟨36, _⟩ => ⟨S1x128x1024, .bf16⟩
  | .local _ .vmem, ⟨37, _⟩ => ⟨S1x128x1024, .bf16⟩
  | .local _ .vmem, ⟨38, _⟩ => ⟨S1x128x1024, .f32⟩
  | .local _ .vmem, ⟨39, _⟩ => ⟨S1x128x1024, .f32⟩
  | .local _ .vmem, ⟨40, _⟩ => ⟨S1x128x1024, .f32⟩
  | .local _ .vmem, ⟨41, _⟩ => ⟨S1x128x1024, .f32⟩
  | .local _ .vmem, ⟨42, _⟩ => ⟨S1x128x1024, .f32⟩
  | .local _ .vmem, ⟨43, _⟩ => ⟨S1x128x1024, .f32⟩
  | .local _ .vmem, ⟨44, _⟩ => ⟨S1x128x1024, .f32⟩
  | .local _ .vmem, ⟨45, _⟩ => ⟨S1x128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c1_i32 : BitVec 32 := 1#32
  let c0_i32_3 : BitVec 32 := 0#32
  let c0_i32_4 : BitVec 32 := 0#32
  ![c1_i32.toNat, v3.toNat, c0_i32_3.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c2_i32 : BitVec 32 := 2#32
  let c0_i32_3 : BitVec 32 := 0#32
  let c0_i32_4 : BitVec 32 := 0#32
  ![c2_i32.toNat, v3.toNat, c0_i32_3.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c1_i32_2 : BitVec 32 := 1#32
  let c0_i32_3 : BitVec 32 := 0#32
  let c0_i32_4 : BitVec 32 := 0#32
  ![c1_i32_2.toNat, v3.toNat, c0_i32_3.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c2_i32 : BitVec 32 := 2#32
  let c0_i32_2 : BitVec 32 := 0#32
  let c0_i32_3 : BitVec 32 := 0#32
  ![c2_i32.toNat, v3.toNat, c0_i32_2.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c1_i32 : BitVec 32 := 1#32
  let c0_i32_2 : BitVec 32 := 0#32
  let c0_i32_3 : BitVec 32 := 0#32
  ![c1_i32.toNat, v3.toNat, c0_i32_2.toNat]

def cc0_transform_15 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c2_i32_2 : BitVec 32 := 2#32
  let c0_i32_3 : BitVec 32 := 0#32
  let c0_i32_4 : BitVec 32 := 0#32
  ![c2_i32_2.toNat, v3.toNat, c0_i32_3.toNat]

def cc0_transform_16 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_17 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c1_i32 : BitVec 32 := 1#32
  let c0_i32_2 : BitVec 32 := 0#32
  let c0_i32_3 : BitVec 32 := 0#32
  ![c1_i32.toNat, v3.toNat, c0_i32_2.toNat]

def cc0_transform_18 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c2_i32 : BitVec 32 := 2#32
  let c0_i32_2 : BitVec 32 := 0#32
  let c0_i32_3 : BitVec 32 := 0#32
  ![c2_i32.toNat, v3.toNat, c0_i32_2.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference18Ideal.lean ====
abbrev S4x128x1024 : Shape := ⟨3, ![4, 128, 1024]⟩
abbrev S128x1024 : Shape := ⟨2, ![128, 1024]⟩
abbrev S3x128x1024 : Shape := ⟨3, ![3, 128, 1024]⟩
abbrev S1x128x1024 : Shape := ⟨3, ![1, 128, 1024]⟩
abbrev S1x3x128x1024 : Shape := ⟨4, ![1, 3, 128, 1024]⟩
abbrev S4x3x128x1024 : Shape := ⟨4, ![4, 3, 128, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S3x128x1024, .bf16⟩
  | .hbm, ⟨8, _⟩ => ⟨S3x128x1024, .bf16⟩
  | .hbm, ⟨9, _⟩ => ⟨S3x128x1024, .bf16⟩
  | .hbm, ⟨10, _⟩ => ⟨S3x128x1024, .bf16⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S4x128x1024, .f32⟩
  | .hbm, ⟨16, _⟩ => ⟨S1x3x128x1024, .bf16⟩
  | .hbm, ⟨17, _⟩ => ⟨S1x3x128x1024, .bf16⟩
  | .hbm, ⟨18, _⟩ => ⟨S1x3x128x1024, .bf16⟩
  | .hbm, ⟨19, _⟩ => ⟨S1x3x128x1024, .bf16⟩
  | .hbm, ⟨20, _⟩ => ⟨S4x3x128x1024, .bf16⟩
  | .hbm, ⟨21, _⟩ => ⟨S4x3x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S_, .f32⟩
  | .hbm, ⟨26, _⟩ => ⟨S4x128x1024, .f32⟩
  | .hbm, ⟨27, _⟩ => ⟨S4x128x1024, .f32⟩
  | .hbm, ⟨28, _⟩ => ⟨S_, .f32⟩
  | .hbm, ⟨29, _⟩ => ⟨S4x128x1024, .f32⟩
  | .hbm, ⟨30, _⟩ => ⟨S4x128x1024, .f32⟩
  | .hbm, ⟨31, _⟩ => ⟨S4x128x1024, .f32⟩
  | .hbm, ⟨32, _⟩ => ⟨S_, .f32⟩
  | .hbm, ⟨33, _⟩ => ⟨S4x128x1024, .f32⟩
  | .hbm, ⟨34, _⟩ => ⟨S4x128x1024, .f32⟩
  | .hbm, ⟨35, _⟩ => ⟨S4x128x1024, .f32⟩
  | .hbm, ⟨36, _⟩ => ⟨S_, .f32⟩
  | .hbm, ⟨37, _⟩ => ⟨S4x128x1024, .f32⟩
  | .hbm, ⟨38, _⟩ => ⟨S4x128x1024, .f32⟩
  | .hbm, ⟨39, _⟩ => ⟨S4x128x1024, .f32⟩
  | .hbm, ⟨40, _⟩ => ⟨S_, .f32⟩
  | .hbm, ⟨41, _⟩ => ⟨S4x128x1024, .f32⟩
  | .hbm, ⟨42, _⟩ => ⟨S4x128x1024, .f32⟩
  | .hbm, ⟨43, _⟩ => ⟨S_, .f32⟩
  | .hbm, ⟨44, _⟩ => ⟨S4x128x1024, .f32⟩
  | .hbm, ⟨45, _⟩ => ⟨S4x128x1024, .f32⟩
  | .hbm, ⟨46, _⟩ => ⟨S4x128x1024, .f32⟩
  | .hbm, ⟨47, _⟩ => ⟨S_, .f32⟩
  | .hbm, ⟨48, _⟩ => ⟨S4x128x1024, .f32⟩
  | .hbm, ⟨49, _⟩ => ⟨S4x128x1024, .f32⟩
  | .hbm, ⟨50, _⟩ => ⟨S4x128x1024, .f32⟩
  | .hbm, ⟨51, _⟩ => ⟨S_, .f32⟩
  | .hbm, ⟨52, _⟩ => ⟨S4x128x1024, .f32⟩
  | .hbm, ⟨53, _⟩ => ⟨S4x128x1024, .f32⟩
  | .hbm, ⟨54, _⟩ => ⟨S4x128x1024, .f32⟩
  | .hbm, ⟨55, _⟩ => ⟨S_, .f32⟩
  | .hbm, ⟨56, _⟩ => ⟨S4x128x1024, .f32⟩
  | .hbm, ⟨57, _⟩ => ⟨S4x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Proof.Ff2Bwd.lean ====
/- The hidden layer's gradient through the squared relu: what the kernel's blocks hold, what the reference computes, and that they agree. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Ff

open Idealize.ShloMosaic

/-- Twice the positive part of a number: the derivative of its squared relu. -/
def relu2' (h : EReal) : EReal := Ideal.ofBits .f32 0x40000000#32 * max h (Ideal.ofBits .f32 0x00000000#32)

/-- The hidden layer's gradient: the product of the block's gradient with the second weight, times the derivative of the squared relu. -/
def dHidden (Z : (⟨2, ![8192, 1024]⟩ : Shape).Idx → EReal) (W : (⟨2, ![4096, 1024]⟩ : Shape).Idx → EReal)
    (H : (⟨2, ![8192, 4096]⟩ : Shape).Idx → EReal) (i : (⟨2, ![8192, 4096]⟩ : Shape).Idx) : EReal :=
  (∑ k : Fin 1024, Z (ix2 (i 0) k) * W (ix2 (i 1) k)) * relu2' (H i)

/-- Where a number is not positive its squared relu has derivative zero, so choosing zero there changes nothing. -/
theorem select_relu2' (h s : EReal) :
    Scalar.select (Ideal.cmp .ogt h (Ideal.ofBits .f32 0x00000000#32)) (s * relu2' h) (Ideal.ofBits .f32 0x00000000#32) = s * relu2' h := by
  unfold relu2'
  rw [Ideal.ofBits_zero_f32]
  by_cases hh : h > 0
  · simp [Scalar.select, Ideal.cmp, hh]
  · rw [max_eq_right (not_lt.mp hh)]
    simp [Scalar.select, Ideal.cmp, hh]

end Cert.Ff

namespace Cert.Kernel2Ideal.Value

open Idealize.ShloMosaic Idealize.ShloMosaic.TcCoe Idealize.SL.Sem
open Cert.Kernel2Ideal Cert.Kernel2Ideal.Gen Cert.Ff
open Idealize.ShloMosaic.Pipeline (Dat)

/-- The whole block's corner. -/
theorem corner : (![0, 0] : Fin 2 → ℕ) = fun _ => 0 := by decide

/-- What the body stores, element by element. -/
theorem pay1 (z : Vec Ideal S512x1024 .f32) (w : Vec Ideal S4096x1024 .bf16) (h : Vec Ideal S512x4096 .bf16) (x : S512x4096.Idx) :
    k0_pay1 z w h x = (∑ k : Fin 1024, z (ix2 (x 0) k) * w (ix2 (x 1) k)) * relu2' (h x) := by
  unfold relu2'
  pointwise [k0_pay1]

variable (m : (ℓ : Loc nD τ sig) → Buf (Elt Ideal) ℓ)

/-- The block indices of the windows at a grid point. -/
theorem idx : ∀ t : Fin cfg0.N, win0_0.index t = ![t.val, 0] ∧ win0_1.index t = ![0, 0] ∧ win0_2.index t = ![t.val, 0] ∧
    win0_3.index t = ![t.val, 0] :=
  (by decide +kernel : ∀ t : Fin grid0.N, _)

/-- The hidden layer's gradient after the run. -/
theorem final (c : Dev nD) : (dats m 0 c).arrAt 3 cfg0.N = dHidden (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  unfold out0_3
  rw [View.canon_unit_zero corner]
  simp only [View.ld_unit_zero (S := S512x1024) corner, View.ld_unit_zero (S := S4096x1024) corner, View.ld_unit_zero (S := S512x4096) corner]
  rw [pay1]
  unfold dHidden
  refine congrArg₂ (· * ·) (Finset.sum_congr rfl fun k _ => congrArg₂ (· * ·) ?_ ?_) (congrArg relu2' ?_)
  · blk_ext [iblk, V, idx t]
  · blk_ext [iblk, V, idx t]
  · blk_ext [iblk, V, idx t]

end Cert.Kernel2Ideal.Value

namespace Cert.Reference2Ideal.Ff

open Idealize.ShloMosaic Idealize.ShloMosaic.TcCoe
open Cert.Reference2Ideal Cert.Reference2Ideal.Gen Cert.Reference2Ideal.Read Cert.Ff

/-- The reference's gradient of the hidden layer. -/
theorem v14 (Z : (⟨S8192x1024, .f32⟩ : BufTy).Contents (Elt Ideal)) (W : (⟨S4096x1024, .bf16⟩ : BufTy).Contents (Elt Ideal))
    (H : (⟨S8192x4096, .bf16⟩ : BufTy).Contents (Elt Ideal)) : val_main_v14 (F := Ideal) Z W H = dHidden Z W H := by
  funext i
  refine Eq.trans ?_ (select_relu2' (H i) _)
  unfold relu2'
  pointwise [val_main_v14, val_main_v13, val_main_v12, val_main_cst_2, val_main_v11, val_main_v10, val_main_v8, val_main_v7, val_main_v6,
    val_main_cst_1, val_main_v3, val_main_v2, val_main_cst, val_main_v1, val_main_v0, val_main_call0_v0, val_main_call0_cst]

end Cert.Reference2Ideal.Ff

end
-- ==== Proof.Ff2Wgrad.lean ====
/- The second weight's gradient: eight blocks of 1024 rows, accumulated, against the reference's one product. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Ff

open Idealize.ShloMosaic

/-- The squared relu. -/
def relu2 (h : EReal) : EReal := max h (Ideal.ofBits .f32 0x00000000#32) * max h (Ideal.ofBits .f32 0x00000000#32)

/-- The gradient of the second weight: the squared relu of the hidden layer, transposed, times the block's gradient. -/
def dW2 (H : (⟨2, ![8192, 4096]⟩ : Shape).Idx → EReal) (Z : (⟨2, ![8192, 1024]⟩ : Shape).Idx → EReal) (a : Fin 4096) (b : Fin 1024) : EReal :=
  ∑ r : Fin 8192, relu2 (H (ix2 r a)) * Z (ix2 r b)

end Cert.Ff

namespace Cert.Kernel3Ideal.Value

open Idealize.ShloMosaic Idealize.ShloMosaic.TcCoe Idealize.SL.Sem
open Cert.Kernel3Ideal Cert.Kernel3Ideal.Gen Cert.Ff
open Idealize.ShloMosaic.Pipeline (Dat)

/-- A run starts from zero. -/
theorem pay1 (x : S2048x1024.Idx) : (show EReal from k0_pay1 (F := Ideal) x) = 0 := by
  pointwise! [k0_pay1]

/-- What a point adds to what it found. -/
theorem pay2 (h : Vec Ideal S1024x2048 .bf16) (z : Vec Ideal S1024x1024 .f32) (a : Vec Ideal S2048x1024 .f32) (x : S2048x1024.Idx) :
    k0_pay2 h a z x = a x + ∑ r : Fin 1024, relu2 (h (ix2 r (x 0))) * z (ix2 r (x 1)) := by
  unfold relu2
  pointwise [k0_pay2]

variable (m : (ℓ : Loc nD τ sig) → Buf (Elt Ideal) ℓ)

/-- The block indices of the windows at a grid point. -/
theorem idx : ∀ t : Fin cfg0.N, win0_0.index t = ![t.val % 8, t.val / 8] ∧ win0_1.index t = ![t.val % 8, 0] ∧
    win0_2.index t = ![t.val / 8, 0] :=
  (by decide +kernel : ∀ t : Fin grid0.N, _)

/-- There are sixteen grid points. -/
theorem lt16 (t : Fin cfg0.N) : t.val < 16 := lt_of_lt_of_eq t.isLt (show cfg0.N = 16 from N_0)

/-- The block of hidden rows at a point. -/
theorem blk0 (c : Dev nD) (t : Fin cfg0.N) (r : Fin 1024) (l : Fin 2048) : iblk m c 0 t (ix2 r l)
    = m ((c : Thread nD τ).loc main_arg0) (ix2 ⟨1024 * (t.val % 8) + r.val, by omega⟩ ⟨2048 * (t.val / 8) + l.val, by have := lt16 t; omega⟩) := by
  blk_ext [iblk, V, idx t]

/-- The block of gradient rows at a point. -/
theorem blk1 (c : Dev nD) (t : Fin cfg0.N) (r : Fin 1024) (l : Fin 1024) : iblk m c 1 t (ix2 r l)
    = m ((c : Thread nD τ).loc main_arg1) (ix2 ⟨1024 * (t.val % 8) + r.val, by omega⟩ l) := by
  blk_ext [iblk, V, idx t]

/-- What the last point of a run of eight leaves. -/
theorem point (c : Dev nD) (t : Fin cfg0.N) (hf : t.val % 8 = 7) (y : S2048x1024.Idx) (z0 : Fin 4096) (z1 : Fin 1024)
    (e0 : z0.val = 2048 * (t.val / 8) + (y 0).val) (e1 : z1.val = (y 1).val) : outsAt0 m c t.val t.isLt y
    = dW2 (m ((c : Thread nD τ).loc main_arg0)) (m ((c : Thread nD τ).loc main_arg1)) z0 z1 := by
  have ht := lt16 t
  rw [Pipeline.eq_sum_fin_of_reset_step_apply_of_flush (fun n h => outsAt0 m c n h) 8 (fun _ => (0 : EReal))
    (fun t i => ∑ r : Fin 1024, relu2 (iblk m c 0 t (ix2 r (i 0))) * iblk m c 1 t (ix2 r (i 1)))
    (fun t h i => by
      rw [outsAt0_A m c t h, out_A_2_eq, pay2]
      exact congrArg (· + _) (pay1 _))
    (fun t h i => by rw [outsAt0_B m c t h, out_B_2_eq, pay2]) t hf y]
  idx_vars y
  rw [zero_add]
  unfold dW2
  have hp : ∀ s : Fin 8, 8 * (t.val / 8) + s.val < cfg0.N := fun s => Pipeline.run_point_lt_of_flush t hf s
  refine Fin.sum_mul_add_congr fun s k hl => ?_
  refine congrArg₂ (fun a b : EReal => relu2 a * b) ((blk0 m c ⟨_, hp s⟩ k y0).trans ?_) ((blk1 m c ⟨_, hp s⟩ k y1).trans ?_)
  · refine congrArg _ (congrArg₂ ix2 (Fin.ext ?_) (Fin.ext ?_))
    · show 1024 * ((8 * (t.val / 8) + s.val) % 8) + k.val = s.val * 1024 + k.val; omega
    · refine Eq.trans ?_ e0.symm
      show 2048 * ((8 * (t.val / 8) + s.val) / 8) + y0.val = 2048 * (t.val / 8) + y0.val; omega
  · refine congrArg _ (congrArg₂ ix2 (Fin.ext ?_) (Fin.ext ?_))
    · show 1024 * ((8 * (t.val / 8) + s.val) % 8) + k.val = s.val * 1024 + k.val; omega
    · exact e1.symm

/-- The second weight's gradient after the run. -/
theorem final (c : Dev nD) : (dats m 0 c).arrAt 2 cfg0.N = fun i => dW2 (m ((c : Thread nD τ).loc main_arg0))
    (m ((c : Thread nD τ).loc main_arg1)) (i 0) (i 1) := by
  refine (dats m 0 c).arrAt_eq_of_covers 2 _ (by decide +kernel) fun t hf y => ?_
  blk_simp
  rw [after0_2]
  exact point m c t ((flush0_2 t).mp hf) y _ _ (by blk_simp [idx t]; omega) (by blk_simp [idx t])

end Cert.Kernel3Ideal.Value

namespace Cert.Reference3Ideal.Ff

open Idealize.ShloMosaic Idealize.ShloMosaic.TcCoe
open Cert.Reference3Ideal Cert.Reference3Ideal.Gen Cert.Reference3Ideal.Read Cert.Ff

/-- The reference's gradient of the second weight. -/
theorem v6 (H : (⟨S8192x4096, .bf16⟩ : BufTy).Contents (Elt Ideal)) (Z : (⟨S8192x1024, .f32⟩ : BufTy).Contents (Elt Ideal)) :
    val_main_v6 (F := Ideal) H Z = fun i => dW2 H Z (i 0) (i 1) := by
  funext i
  unfold dW2
  refine Eq.trans ?_ (Finset.sum_congr rfl fun r _ => mul_comm _ _)
  unfold relu2
  pointwise [val_main_v6, val_main_v5, val_main_v3, val_main_v2, val_main_v1, val_main_call0_v0, val_main_call0_cst]

end Cert.Reference3Ideal.Ff

end
-- ==== Proof.Ff1Wgrad.lean ====
/- The first weight's gradient, laid out by the device that owns it: eight blocks of 1024 rows, accumulated, against the reference's one
   product. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ff

open Idealize.ShloMosaic

/-- The part of some rows in the first weight's gradient, at column `a` of the rows and column `b` of the hidden layer's gradient. -/
def dW1 {n : ℕ} (X : (⟨2, ![n, 1024]⟩ : Shape).Idx → EReal) (G : (⟨2, ![n, 4096]⟩ : Shape).Idx → EReal) (a : Fin 1024) (b : Fin 4096) : EReal :=
  ∑ r : Fin n, X (ix2 r a) * G (ix2 r b)

/-- Column `d` of the owner's 512 columns, of chip `p` and core `q`. -/
def ownCol (p : Fin 4) (q : Fin 2) (d : Fin 512) : Fin 4096 := ⟨1024 * p.val + 512 * q.val + d.val, by omega⟩

end Cert.Ff

namespace Cert.Kernel4Ideal.Value

open Idealize.ShloMosaic Idealize.ShloMosaic.TcCoe Idealize.SL.Sem
open Cert.Kernel4Ideal Cert.Kernel4Ideal.Gen Cert.Ff
open Idealize.ShloMosaic.Pipeline (Dat)

/-- A run starts from zero. -/
theorem zero (x : S4x2x1024x512.Idx) : (show EReal from k0_pay4 (F := Ideal) x) = 0 := by
  pointwise! [k0_pay4]

section Tiles

variable (v : Vec Ideal S1024x1024 .f32) (a : Vec Ideal S1x1x1024x512 .f32) (b : Vec Ideal S1024x512 .bf16)

/-- What a store of one owner's block holds: what it held, and the rows' part. -/
theorem tile (x : S1x1x1024x512.Idx) :
    k0_pay2 (k0_pay5 v) a b x = a x + ∑ r : Fin 1024, v (ix2 r (x 2)) * b (ix2 r (x 3)) := by
  pointwise [k0_pay2, k0_pay5]

/-! The other stores' payloads are the same operations, cut at other places. -/

theorem pay6x : k0_pay6 v a b = k0_pay2 (k0_pay5 v) a b := rfl
theorem pay7x : k0_pay7 v a b = k0_pay2 (k0_pay5 v) a b := rfl
theorem pay9x : k0_pay9 (k0_pay5 v) (k0_pay8 a) b = k0_pay2 (k0_pay5 v) a b := rfl
theorem pay10x : k0_pay10 (k0_pay5 v) a b = k0_pay2 (k0_pay5 v) a b := rfl
theorem pay11x : k0_pay11 (k0_pay5 v) a b = k0_pay2 (k0_pay5 v) a b := rfl
theorem pay1x : k0_pay1 (k0_pay5 v) (k0_pay12 a) b = k0_pay2 (k0_pay5 v) a b := rfl
theorem pay3x : k0_pay3 (k0_pay5 v) a b = k0_pay2 (k0_pay5 v) a b := rfl

/-- A coordinate of a store's rectangle is its corner's plus the one inside. -/
theorem corner_val {S : Shape} (off size : Fin S.rank → ℕ) (inb) (x) (k : Fin S.rank) :
    ((Rect.unit (s := S) off size inb).emb x k).val = off k + 1 * (x k).val := rfl

/-- The same from the whole blocks, where the store's columns are the owner's. -/
theorem owner (X : Vec Ideal S1024x1024 .f32) (G : Vec Ideal S1024x4096 .bf16) (p : Fin 4) (q : Fin 2) (hv : ∀ i, v i = X i)
    (hb : ∀ r d, b (ix2 r d) = G (ix2 r (ownCol p q d))) (x : S1x1x1024x512.Idx) (s : EReal) (ha : a x = s)
    (z2 : Fin 1024) (z3 : Fin 512) (e2 : z2.val = (x 2).val) (e3 : z3.val = (x 3).val) :
    k0_pay2 (k0_pay5 v) a b x = s + dW1 X G z2 (ownCol p q z3) := by
  obtain rfl : z2 = x 2 := Fin.ext e2
  obtain rfl : z3 = x 3 := Fin.ext e3
  rw [tile, ha]
  unfold dW1
  refine congrArg (s + ·) (Finset.sum_congr rfl fun r _ => congrArg₂ (· * ·) (hv _) (hb r (x 3)))

end Tiles

variable (m : (ℓ : Loc nD τ sig) → Buf (Elt Ideal) ℓ)

/-- After the first point of a run. -/
theorem out_A (c : Dev nD) (t : Fin cfg0.N) (y : S4x2x1024x512.Idx) (h0 : t.val % 8 = 0) : outsAt0 m c t.val t.isLt y
    = 0 + dW1 (iblk m c 0 t) (iblk m c 1 t) (y 2) (ownCol (y 0) (y 1) (y 3)) := by
  rw [outsAt0_A m c t h0]
  frame_open
  simp (disch := decide) only [↓ View.readCov_skip, ↓ View.readCov_cons_toLoadRect, ↓ View.readCov_fill]
  frame_out
  have hz := zero
  generalize k0_pay4 (F := Ideal) = Z at hz ⊢
  generalize iblk m c 0 t = X
  generalize iblk m c 1 t = G
  refine View.canon_append_of_piecesOf (Val := Elt Ideal) (e := .f32)
    (fun y => 0 + dW1 X G (y 2) (ownCol (y 0) (y 1) (y 3))) [_]
    [_, _, _, _, _, _, _, _] ⟨?_, ?_, ?_, ?_, ?_, ?_, ?_, ?_, trivial⟩ y ?_
  rotate_right
  · exact View.cover_of_tiledL _ ![1, 1, 1024, 512] (by rfl) y
  all_goals
    intro (x : S1x1x1024x512.Idx)
    dsimp only
    try simp only [pay1x, pay3x, pay6x, pay7x, pay9x, pay10x, pay11x]
    have h0 : (x 0).val < 1 := (x 0).isLt
    have h1 : (x 1).val < 1 := (x 1).isLt
    refine owner _ _ _ _ _ _ _ ?_ ?_ x _ ?_ _ _ ?_ ?_
    · intro i; pointwise; try rfl
    · intro r d
      pointwise
      refine congrArg _ (congrArg (ix2 r) (Fin.ext ?_))
      unfold ownCol
      simp [corner_val]
      try omega
    · pointwise; exact hz _
    · show 0 + 1 * (x 2).val = (x 2).val; omega
    · show 0 + 1 * (x 3).val = (x 3).val; omega

/-- After a point that adds to what the point before left. -/
theorem out_B (c : Dev nD) (t : Fin cfg0.N) (y : S4x2x1024x512.Idx) (h0 : ¬ t.val % 8 = 0) : outsAt0 m c t.val t.isLt y
    = outsAt0 m c (t.val - 1) (Nat.lt_of_le_of_lt (Nat.sub_le _ _) t.isLt) y
      + dW1 (iblk m c 0 t) (iblk m c 1 t) (y 2) (ownCol (y 0) (y 1) (y 3)) := by
  rw [outsAt0_B m c t h0]; frame_out
  generalize outsAt0 m c (t.val - 1) (Nat.lt_of_le_of_lt (Nat.sub_le _ _) t.isLt) = P
  refine View.canon_append_of_piecesOf (Val := Elt Ideal) (e := .f32)
    (fun y => P y + dW1 (iblk m c 0 t) (iblk m c 1 t) (y 2) (ownCol (y 0) (y 1) (y 3))) []
    [_, _, _, _, _, _, _, _] ⟨?_, ?_, ?_, ?_, ?_, ?_, ?_, ?_, trivial⟩ y ?_
  rotate_right
  · exact View.cover_of_tiledL _ ![1, 1, 1024, 512] (by rfl) y
  all_goals
    intro (x : S1x1x1024x512.Idx)
    dsimp only
    try simp only [pay1x, pay3x, pay6x, pay7x, pay9x, pay10x, pay11x]
    have h0 : (x 0).val < 1 := (x 0).isLt
    have h1 : (x 1).val < 1 := (x 1).isLt
    refine owner _ _ _ _ _ _ _ ?_ ?_ x _ ?_ _ _ ?_ ?_
    · intro i; pointwise; try rfl
    · intro r d
      pointwise
      refine congrArg _ (congrArg (ix2 r) (Fin.ext ?_))
      unfold ownCol
      simp [corner_val]
      try omega
    · pointwise; exact congrArg P (by idx_vars x; idx_ext)
    · show 0 + 1 * (x 2).val = (x 2).val; omega
    · show 0 + 1 * (x 3).val = (x 3).val; omega

/-- The block indices of the windows at a grid point. -/
theorem idx : ∀ t : Fin cfg0.N, win0_0.index t = ![t.val, 0] ∧ win0_1.index t = ![t.val, 0] ∧ win0_2.index t = ![0, 0, 0, 0] :=
  (by decide +kernel : ∀ t : Fin grid0.N, _)

/-- There are eight grid points. -/
theorem lt8 (t : Fin cfg0.N) : t.val < 8 := lt_of_lt_of_eq t.isLt (show cfg0.N = 8 from N_0)

/-- The block of rows at a point. -/
theorem blk0 (c : Dev nD) (t : Fin cfg0.N) (r : Fin 1024) (l : Fin 1024) : iblk m c 0 t (ix2 r l)
    = m ((c : Thread nD τ).loc main_arg0) (ix2 ⟨1024 * t.val + r.val, by have := lt8 t; omega⟩ l) := by
  blk_ext [iblk, V, idx t]

/-- The block of the hidden layer's gradient at a point. -/
theorem blk1 (c : Dev nD) (t : Fin cfg0.N) (r : Fin 1024) (l : Fin 4096) : iblk m c 1 t (ix2 r l)
    = m ((c : Thread nD τ).loc main_arg1) (ix2 ⟨1024 * t.val + r.val, by have := lt8 t; omega⟩ l) := by
  blk_ext [iblk, V, idx t]

/-- What the last point leaves. -/
theorem point (c : Dev nD) (t : Fin cfg0.N) (hf : t.val % 8 = 7) (y z : S4x2x1024x512.Idx) (e : ∀ a, (z a).val = (y a).val) :
    outsAt0 m c t.val t.isLt y
    = dW1 (m ((c : Thread nD τ).loc main_arg0)) (m ((c : Thread nD τ).loc main_arg1)) (z 2) (ownCol (z 0) (z 1) (z 3)) := by
  have ht := lt8 t
  obtain rfl : z = y := funext fun a => Fin.ext (e a)
  rw [Pipeline.eq_sum_fin_of_reset_step_apply_of_flush (fun n h => outsAt0 m c n h) 8 (fun _ => (0 : EReal))
    (fun t i => dW1 (iblk m c 0 t) (iblk m c 1 t) (i 2) (ownCol (i 0) (i 1) (i 3)))
    (fun t h i => out_A m c t i h) (fun t h i => out_B m c t i h) t hf z]
  rw [zero_add]
  unfold dW1
  have hp : ∀ s : Fin 8, 8 * (t.val / 8) + s.val < cfg0.N := fun s => Pipeline.run_point_lt_of_flush t hf s
  refine Fin.sum_mul_add_congr fun s k hl => ?_
  refine congrArg₂ (· * ·) ((blk0 m c ⟨_, hp s⟩ k (z 2)).trans ?_) ((blk1 m c ⟨_, hp s⟩ k (ownCol (z 0) (z 1) (z 3))).trans ?_)
  · refine congrArg _ (congrArg (fun j => ix2 j _) (Fin.ext ?_))
    show 1024 * (8 * (t.val / 8) + s.val) + k.val = s.val * 1024 + k.val; omega
  · refine congrArg _ (congrArg (fun j => ix2 j _) (Fin.ext ?_))
    show 1024 * (8 * (t.val / 8) + s.val) + k.val = s.val * 1024 + k.val; omega

/-- The first weight's gradient after the run. -/
theorem final (c : Dev nD) : (dats m 0 c).arrAt 2 cfg0.N = fun i => dW1 (m ((c : Thread nD τ).loc main_arg0))
    (m ((c : Thread nD τ).loc main_arg1)) (i 2) (ownCol (i 0) (i 1) (i 3)) := by
  refine (dats m 0 c).arrAt_eq_of_covers 2 _ (by decide +kernel) fun t hf y => ?_
  blk_simp
  rw [after0_2]
  exact point m c t ((flush0_2 t).mp hf) y _ (by intro a; blk_simp [idx t]; fin_cases a <;> simp)

end Cert.Kernel4Ideal.Value

namespace Cert.Reference4Ideal.Ff

open Idealize.ShloMosaic Idealize.ShloMosaic.TcCoe
open Cert.Reference4Ideal Cert.Reference4Ideal.Gen Cert.Reference4Ideal.Read Cert.Ff

/-- The reference's gradient of the first weight. -/
theorem v6 (X : (⟨S8192x1024, .f32⟩ : BufTy).Contents (Elt Ideal)) (G : (⟨S8192x4096, .bf16⟩ : BufTy).Contents (Elt Ideal)) :
    val_main_v6 (F := Ideal) X G = fun i => dW1 X G (i 2) (ownCol (i 0) (i 1) (i 3)) := by
  funext i
  unfold dW1
  rw [val_main_v6_apply, val_main_v5_apply, val_main_v4_apply, val_main_v3_apply]
  refine Finset.sum_congr rfl fun r _ => (mul_comm _ _).trans (congrArg₂ (· * ·) (congrArg X ?_) (congrArg G ?_))
  · idx_ext
  · unfold ownCol; idx_ext

end Cert.Reference4Ideal.Ff

end
-- ==== Proof.LnDefs.lean ====
/- Layer normalisation of one row of 1024 numbers, and the residual that goes into it. -/
module

public import Idealize.ShloMosaic.Lib.Pipeline.ValueKit
public import Idealize.ShloMosaic.Lib.Pointwise

@[expose] public section

noncomputable section

namespace Cert.Ln

open Idealize.ShloMosaic

/-- The mean of a row. -/
def mean (z : Fin 1024 → EReal) : EReal := Ideal.div (∑ k, z k) (Ideal.ofBits .f32 0x44800000#32)

/-- A row less its mean. -/
def cent (z : Fin 1024 → EReal) (k : Fin 1024) : EReal := z k - mean z

/-- The reciprocal of a row's standard deviation. -/
def rs (z : Fin 1024 → EReal) : EReal :=
  Ideal.rsqrt (mean (fun k => cent z k * cent z k) + Ideal.ofBits .f32 0x3727C5AC#32)

/-- A row normalised, without gain and bias. -/
def xhat (z : Fin 1024 → EReal) (k : Fin 1024) : EReal := cent z k * rs z

/-- A row normalised, with its gain and bias. -/
def out (z g b : Fin 1024 → EReal) (k : Fin 1024) : EReal := xhat z k * g k + b k

/-- A row of the scaled residual and a product. -/
def resid {n d : ℕ} (O : (⟨2, ![n, d]⟩ : Shape).Idx → EReal) (W : (⟨2, ![d, 1024]⟩ : Shape).Idx → EReal)
    (X : (⟨2, ![n, 1024]⟩ : Shape).Idx → EReal) (i : Fin n) (k : Fin 1024) : EReal :=
  Ideal.ofBits .f32 0x3FD744FD#32 * X (ix2 i k) + ∑ l : Fin d, O (ix2 i l) * W (ix2 l k)

end Cert.Ln

end
-- ==== Proof.OProj.lean ====
/- The output projection, its residual and layer normalisation, and the first weight's product: what the kernel's blocks hold, what the
   reference computes, and that they agree. -/
module

public import proofs.«01_k».proof.Proof.LnDefs
public import proofs.«01_k».proof.Proof.Gen.Kernel6Ideal.Value
public import proofs.«01_k».proof.Proof.Gen.Reference6Ideal.Read

@[expose] public section

set_option maxRecDepth 16384

noncomputable section

namespace Cert.Kernel6Ideal.Value

open Idealize.ShloMosaic Idealize.ShloMosaic.TcCoe Idealize.SL.Sem
open Cert.Kernel6Ideal Cert.Kernel6Ideal.Gen Cert.Ln
open Idealize.ShloMosaic.Pipeline (Dat)

/-- The whole block's corner. -/
theorem corner : (![0, 0] : Fin 2 → ℕ) = fun _ => 0 := by decide

section Block

variable (o : Vec Ideal S512x1024 .bf16) (x : Vec Ideal S512x1024 .f32) (w : Vec Ideal S1024x1024 .bf16)

/-- The residual less its mean. -/
theorem pay2 (y : S512x1024.Idx) : k0_pay2 o x w y = cent (resid o w x (y 0)) (y 1) := by
  unfold cent mean resid
  pointwise [k0_pay2]

/-- The reciprocal standard deviation. -/
theorem pay3 (y : S512x1.Idx) : k0_pay3 o x w y = rs (resid o w x (y 0)) := by
  have h : ∀ i k, k0_pay2 o x w (ix2 i k) = cent (resid o w x i) k := fun i k => pay2 o x w (ix2 i k)
  unfold rs mean
  rw [← funext fun k => congrArg₂ (· * ·) (h (y 0) k) (h (y 0) k)]
  pointwise [k0_pay3]

/-- The normalised residual. -/
theorem pay4 (y : S512x1024.Idx) : k0_pay4 o x w y = xhat (resid o w x (y 0)) (y 1) := by
  have h := pay3 o x w (ix2 (y 0) 0)
  unfold xhat
  refine Eq.trans ?_ (congrArg₂ (· * ·) (pay2 o x w y) h)
  pointwise [k0_pay4]

/-- … with gain and bias. -/
theorem pay5 (g b : Vec Ideal S1x1024 .f32) (y : S512x1024.Idx) : k0_pay5 o x w g b y
    = Ln.out (resid o w x (y 0)) (fun k => g (ix2 0 k)) (fun k => b (ix2 0 k)) (y 1) := by
  unfold Ln.out
  rw [← pay4]
  pointwise [k0_pay5]

/-- The first weight's product. -/
theorem pay1 (x2 : Vec Ideal S512x1024 .f32) (w1 : Vec Ideal S1024x4096 .bf16) (y : S512x4096.Idx) : k0_pay1 x2 w1 y
    = ∑ k : Fin 1024, x2 (ix2 (y 0) k) * w1 (ix2 k (y 1)) := by
  pointwise [k0_pay1]

end Block

variable (m : (ℓ : Loc nD τ sig) → Buf (Elt Ideal) ℓ)

/-- The block indices of the windows at a grid point. -/
theorem idx : ∀ t : Fin cfg0.N, win0_0.index t = ![t.val, 0] ∧ win0_1.index t = ![0, 0] ∧ win0_2.index t = ![t.val, 0] ∧
    win0_3.index t = ![0, 0] ∧ win0_4.index t = ![0, 0] ∧ win0_5.index t = ![0, 0] ∧ win0_6.index t = ![t.val, 0] ∧
    win0_7.index t = ![t.val, 0] ∧ win0_8.index t = ![t.val, 0] ∧ win0_9.index t = ![t.val, 0] :=
  (by decide +kernel : ∀ t : Fin grid0.N, _)

/-- There are sixteen grid points. -/
theorem lt16 (t : Fin cfg0.N) : t.val < 16 := lt_of_lt_of_eq t.isLt (show cfg0.N = 16 from N_0)

/-- A block's row of the residual is the array's. -/
theorem rowOf (c : Dev nD) (t : Fin cfg0.N) (r : Fin 512) (i : Fin 8192) (h : i.val = 512 * t.val + r.val) :
    resid (iblk m c 0 t) (iblk m c 1 t) (iblk m c 2 t) r
    = resid (m ((c : Thread nD τ).loc main_arg0)) (m ((c : Thread nD τ).loc main_arg1)) (m ((c : Thread nD τ).loc main_arg2)) i := by
  funext k
  unfold resid
  refine congrArg₂ (· + ·) (congrArg _ ?_) (Finset.sum_congr rfl fun l _ => congrArg₂ (· * ·) ?_ ?_)
  · blk_ext [iblk, V, idx t]
  · blk_ext [iblk, V, idx t]
  · blk_ext [iblk, V, idx t]

/-- The gain as the launch finds it. -/
theorem vgain (c : Dev nD) : V m c main_v0 = shapeCast S1x1024 (m ((c : Thread nD τ).loc main_arg3)) shapeCasts_S1024_S1x1024 := by
  unfold V; after_results; try rfl

/-- The bias as the launch finds it. -/
theorem vbias (c : Dev nD) : V m c main_v1 = shapeCast S1x1024 (m ((c : Thread nD τ).loc main_arg4)) shapeCasts_S1024_S1x1024 := by
  unfold V; after_results; try rfl

/-- The gain's row. -/
theorem gain (c : Dev nD) (t : Fin cfg0.N) (k : Fin 1024) :
    iblk m c 3 t (ix2 0 k) = m ((c : Thread nD τ).loc main_arg3) (ix1 k) := by
  have h : iblk m c 3 t (ix2 0 k) = V m c main_v0 (ix2 0 k) := by blk_ext [iblk, idx t]
  rw [h, vgain]
  pointwise

/-- The bias's row. -/
theorem bias (c : Dev nD) (t : Fin cfg0.N) (k : Fin 1024) :
    iblk m c 4 t (ix2 0 k) = m ((c : Thread nD τ).loc main_arg4) (ix1 k) := by
  have h : iblk m c 4 t (ix2 0 k) = V m c main_v1 (ix2 0 k) := by blk_ext [iblk, idx t]
  rw [h, vbias]
  pointwise

/-- The block's output after the run. -/
theorem final6 (c : Dev nD) : (dats m 0 c).arrAt 6 cfg0.N = fun i : S8192x1024.Idx => Ln.out (resid (m ((c : Thread nD τ).loc main_arg0)) (m ((c : Thread nD τ).loc main_arg1)) (m ((c : Thread nD τ).loc main_arg2)) (i 0))
    (fun k => m ((c : Thread nD τ).loc main_arg3) (ix1 k)) (fun k => m ((c : Thread nD τ).loc main_arg4) (ix1 k)) (i 1) := by
  refine (dats m 0 c).arrAt_eq_of_covers 6 _ (by decide +kernel) fun t hf y => ?_
  blk_simp
  rw [after0_6]
  unfold out0_6 k0_pay6
  rw [View.canon_unit_zero corner]
  simp only [View.ld_unit_zero (S := S512x1024) corner, View.ld_unit_zero (S := S1024x1024) corner, View.ld_unit_zero (S := S1x1024) corner,
    View.ld_unit_zero (S := S1024x4096) corner]
  rw [pay5, funext (gain m c t), funext (bias m c t)]
  exact congrArg₂ (fun z k => Ln.out z _ _ k) (rowOf m c t (y 0) _ (by blk_simp [idx t]; try omega)) (Fin.ext (by blk_simp [idx t]; try simp))

/-- The normalised residual after the run. -/
theorem final7 (c : Dev nD) : (dats m 0 c).arrAt 7 cfg0.N = fun i : S8192x1024.Idx => xhat (resid (m ((c : Thread nD τ).loc main_arg0)) (m ((c : Thread nD τ).loc main_arg1)) (m ((c : Thread nD τ).loc main_arg2)) (i 0)) (i 1) := by
  refine (dats m 0 c).arrAt_eq_of_covers 7 _ (by decide +kernel) fun t hf y => ?_
  blk_simp
  rw [after0_7]
  unfold out0_7
  rw [View.canon_unit_zero corner]
  simp only [View.ld_unit_zero (S := S512x1024) corner, View.ld_unit_zero (S := S1024x1024) corner]
  rw [pay4]
  exact congrArg₂ xhat (rowOf m c t (y 0) _ (by blk_simp [idx t]; try omega)) (Fin.ext (by blk_simp [idx t]; try simp))

/-- The reciprocal standard deviations after the run. -/
theorem final8 (c : Dev nD) : (dats m 0 c).arrAt 8 cfg0.N = fun i : S8192x1.Idx => rs (resid (m ((c : Thread nD τ).loc main_arg0)) (m ((c : Thread nD τ).loc main_arg1)) (m ((c : Thread nD τ).loc main_arg2)) (i 0)) := by
  refine (dats m 0 c).arrAt_eq_of_covers 8 _ (by decide +kernel) fun t hf y => ?_
  blk_simp
  rw [after0_8]
  unfold out0_8
  rw [View.canon_unit_zero corner]
  simp only [View.ld_unit_zero (S := S512x1024) corner, View.ld_unit_zero (S := S1024x1024) corner]
  rw [pay3]
  exact congrArg rs (rowOf m c t (y 0) _ (by blk_simp [idx t]; try omega))

/-- The hidden layer after the run. -/
theorem final9 (c : Dev nD) : (dats m 0 c).arrAt 9 cfg0.N = fun i : S8192x4096.Idx => ∑ k : Fin 1024, Ln.out (resid (m ((c : Thread nD τ).loc main_arg0)) (m ((c : Thread nD τ).loc main_arg1)) (m ((c : Thread nD τ).loc main_arg2)) (i 0))
    (fun k => m ((c : Thread nD τ).loc main_arg3) (ix1 k)) (fun k => m ((c : Thread nD τ).loc main_arg4) (ix1 k)) k
    * m ((c : Thread nD τ).loc main_arg5) (ix2 k (i 1)) := by
  refine (dats m 0 c).arrAt_eq_of_covers 9 _ (by decide +kernel) fun t hf y => ?_
  blk_simp
  rw [after0_9]
  unfold out0_9 k0_pay6
  rw [View.canon_unit_zero corner]
  simp only [View.ld_unit_zero (S := S512x1024) corner, View.ld_unit_zero (S := S1024x1024) corner, View.ld_unit_zero (S := S1x1024) corner,
    View.ld_unit_zero (S := S1024x4096) corner]
  rw [pay1]
  refine Finset.sum_congr (M := EReal) rfl fun k _ => congrArg₂ (· * ·) ?_ ?_
  · rw [pay5, funext (gain m c t), funext (bias m c t)]
    exact congrArg (fun z => Ln.out z _ _ k) (rowOf m c t (y 0) _ (by blk_simp [idx t]; try omega))
  · blk_ext [iblk, V, idx t]

end Cert.Kernel6Ideal.Value

namespace Cert.Reference6Ideal.Ln6

open Idealize.ShloMosaic Idealize.ShloMosaic.TcCoe
open Cert.Reference6Ideal Cert.Reference6Ideal.Gen Cert.Reference6Ideal.Read Cert.Ln

variable (O : (⟨S8192x1024, .bf16⟩ : BufTy).Contents (Elt Ideal)) (W : (⟨S1024x1024, .bf16⟩ : BufTy).Contents (Elt Ideal))
  (X : (⟨S8192x1024, .f32⟩ : BufTy).Contents (Elt Ideal)) (g b : (⟨S1024, .f32⟩ : BufTy).Contents (Elt Ideal))
  (W1 : (⟨S1024x4096, .bf16⟩ : BufTy).Contents (Elt Ideal))

/-- The reference's residual. -/
theorem v5 (i : S8192x1024.Idx) : val_main_v5 (F := Ideal) O W X i = resid O W X (i 0) (i 1) := by
  unfold resid
  pointwise [val_main_v5, val_main_v4, val_main_v3, val_main_v2, val_main_v1, val_main_v0, val_main_cst]

/-- The reference's mean. -/
theorem v9 (i : S8192x1.Idx) : val_main_v9 (F := Ideal) O W X i = mean (resid O W X (i 0)) := by
  have h : ∀ k, val_main_v5 (F := Ideal) O W X (ix2 (i 0) k) = resid O W X (i 0) k := fun k => v5 O W X (ix2 (i 0) k)
  refine Eq.trans ?_ (congrArg mean (funext h))
  unfold mean
  pointwise [val_main_v9, val_main_v8, val_main_v7, val_main_v6, val_main_cst_0, val_main_cst_1]

/-- The reference's residual less its mean. -/
theorem v11 (i : S8192x1024.Idx) : val_main_v11 (F := Ideal) O W X i = cent (resid O W X (i 0)) (i 1) := by
  refine Eq.trans ?_ (congrArg₂ (· - ·) (v5 O W X i) (v9 O W X (ix2 (i 0) 0)))
  pointwise [val_main_v11, val_main_v10]

/-- The reference's reciprocal standard deviation. -/
theorem v19 (i : S8192x1.Idx) : val_main_v19 (F := Ideal) O W X i = rs (resid O W X (i 0)) := by
  have h : ∀ k, val_main_v11 (F := Ideal) O W X (ix2 (i 0) k) = cent (resid O W X (i 0)) k := fun k => v11 O W X (ix2 (i 0) k)
  unfold rs
  refine Eq.trans ?_ (congrArg (fun f => Ideal.rsqrt (mean f + Ideal.ofBits .f32 0x3727C5AC#32)) (funext fun k => congrArg₂ (· * ·) (h k) (h k)))
  unfold mean
  pointwise [val_main_v19, val_main_v18, val_main_v17, val_main_cst_4, val_main_v16, val_main_v15, val_main_cst_3, val_main_v14, val_main_v13,
    val_main_cst_2, val_main_v12]

/-- The reference's normalised residual, as the block's output reads it. -/
theorem v23 (i : S8192x1024.Idx) : val_main_v23 (F := Ideal) O W X i = xhat (resid O W X (i 0)) (i 1) := by
  refine Eq.trans ?_ (congrArg₂ (· * ·) (v11 O W X i) (v19 O W X (ix2 (i 0) 0)))
  pointwise [val_main_v23, val_main_v22, val_main_v21, val_main_v20, val_main_v11, val_main_v10]

/-- The reference's normalised residual. -/
theorem v33 (i : S8192x1024.Idx) : val_main_v33 (F := Ideal) O W X i = xhat (resid O W X (i 0)) (i 1) := by
  refine Eq.trans ?_ (congrArg₂ (· * ·) (v11 O W X i) (v19 O W X (ix2 (i 0) 0)))
  pointwise [val_main_v33, val_main_v32, val_main_v31, val_main_v30, val_main_v11, val_main_v10]

/-- The reference's output of the block. -/
theorem v29 (i : S8192x1024.Idx) : val_main_v29 (F := Ideal) O W X g b i
    = Ln.out (resid O W X (i 0)) (fun k => g (ix1 k)) (fun k => b (ix1 k)) (i 1) := by
  unfold Ln.out
  refine Eq.trans ?_ (congrArg₂ (· + ·) (congrArg (· * _) (v23 O W X i)) rfl)
  pointwise [val_main_v29, val_main_v28, val_main_v27, val_main_v26, val_main_v25, val_main_v24]

/-- The reference's hidden layer. -/
theorem v36 (i : S8192x4096.Idx) : val_main_v36 (F := Ideal) O W X g b W1 i = ∑ k : Fin 1024,
    Ln.out (resid O W X (i 0)) (fun k => g (ix1 k)) (fun k => b (ix1 k)) k * W1 (ix2 k (i 1)) := by
  refine Eq.trans ?_ (Finset.sum_congr rfl fun k _ => congrArg (· * _) (v29 O W X g b (ix2 (i 0) k)))
  pointwise [val_main_v36, val_main_v35, val_main_v34]

end Cert.Reference6Ideal.Ln6

end
-- ==== Proof.Ff2Fwd.lean ====
/- The second feed-forward product of the squared relu, its residual and layer normalisation. -/
module

public import proofs.«01_k».proof.Proof.LnDefs
public import proofs.«01_k».proof.Proof.Ff2Wgrad
public import proofs.«01_k».proof.Proof.Gen.Kernel7Ideal.Value
public import proofs.«01_k».proof.Proof.Gen.Reference7Ideal.Read

@[expose] public section

set_option maxRecDepth 16384

noncomputable section

namespace Cert.Kernel7Ideal.Value

open Idealize.ShloMosaic Idealize.ShloMosaic.TcCoe Idealize.SL.Sem
open Cert.Kernel7Ideal Cert.Kernel7Ideal.Gen Cert.Ln Cert.Ff
open Idealize.ShloMosaic.Pipeline (Dat)

/-- The whole block's corner. -/
theorem corner : (![0, 0] : Fin 2 → ℕ) = fun _ => 0 := by decide

section Block

variable (o : Vec Ideal S512x4096 .bf16) (x : Vec Ideal S512x1024 .f32) (w : Vec Ideal S4096x1024 .bf16)

/-- The residual less its mean. -/
theorem pay2 (y : S512x1024.Idx) : k0_pay2 o x w y = cent (resid (fun i => relu2 (o i)) w x (y 0)) (y 1) := by
  unfold cent mean resid relu2
  pointwise [k0_pay2]

/-- The reciprocal standard deviation. -/
theorem pay3 (y : S512x1.Idx) : k0_pay3 o x w y = rs (resid (fun i => relu2 (o i)) w x (y 0)) := by
  have h : ∀ i k, k0_pay2 o x w (ix2 i k) = cent (resid (fun i => relu2 (o i)) w x i) k := fun i k => pay2 o x w (ix2 i k)
  unfold rs mean
  rw [← funext fun k => congrArg₂ (· * ·) (h (y 0) k) (h (y 0) k)]
  pointwise [k0_pay3]

/-- The normalised residual. -/
theorem pay4 (y : S512x1024.Idx) : k0_pay4 o x w y = xhat (resid (fun i => relu2 (o i)) w x (y 0)) (y 1) := by
  have h := pay3 o x w (ix2 (y 0) 0)
  unfold xhat
  refine Eq.trans ?_ (congrArg₂ (· * ·) (pay2 o x w y) h)
  pointwise [k0_pay4]

/-- … with gain and bias. -/
theorem pay5 (g b : Vec Ideal S1x1024 .f32) (y : S512x1024.Idx) : k0_pay1 (k0_pay5 o x w g) b y
    = Ln.out (resid (fun i => relu2 (o i)) w x (y 0)) (fun k => g (ix2 0 k)) (fun k => b (ix2 0 k)) (y 1) := by
  unfold Ln.out
  rw [← pay4]
  pointwise [k0_pay1, k0_pay5]

end Block

variable (m : (ℓ : Loc nD τ sig) → Buf (Elt Ideal) ℓ)

/-- The block indices of the windows at a grid point. -/
theorem idx : ∀ t : Fin cfg0.N, win0_0.index t = ![t.val, 0] ∧ win0_1.index t = ![0, 0] ∧ win0_2.index t = ![t.val, 0] ∧
    win0_3.index t = ![0, 0] ∧ win0_4.index t = ![0, 0] ∧ win0_5.index t = ![t.val, 0] ∧ win0_6.index t = ![t.val, 0] ∧
    win0_7.index t = ![t.val, 0] :=
  (by decide +kernel : ∀ t : Fin grid0.N, _)

/-- There are sixteen grid points. -/
theorem lt16 (t : Fin cfg0.N) : t.val < 16 := lt_of_lt_of_eq t.isLt (show cfg0.N = 16 from N_0)

/-- A block's row of the residual is the array's. -/
theorem rowOf (c : Dev nD) (t : Fin cfg0.N) (r : Fin 512) (i : Fin 8192) (h : i.val = 512 * t.val + r.val) :
    resid (fun i => relu2 (iblk m c 0 t i)) (iblk m c 1 t) (iblk m c 2 t) r
    = resid (fun j => relu2 (m ((c : Thread nD τ).loc main_arg0) j)) (m ((c : Thread nD τ).loc main_arg1)) (m ((c : Thread nD τ).loc main_arg2)) i := by
  funext k
  unfold resid
  refine congrArg₂ (· + ·) (congrArg _ ?_) (Finset.sum_congr rfl fun l _ => congrArg₂ (fun a b : EReal => relu2 a * b) ?_ ?_)
  · blk_ext [iblk, V, idx t]
  · blk_ext [iblk, V, idx t]
  · blk_ext [iblk, V, idx t]

/-- The gain as the launch finds it. -/
theorem vgain (c : Dev nD) : V m c main_v0 = shapeCast S1x1024 (m ((c : Thread nD τ).loc main_arg3)) shapeCasts_S1024_S1x1024 := by
  unfold V; after_results; try rfl

/-- The bias as the launch finds it. -/
theorem vbias (c : Dev nD) : V m c main_v1 = shapeCast S1x1024 (m ((c : Thread nD τ).loc main_arg4)) shapeCasts_S1024_S1x1024 := by
  unfold V; after_results; try rfl

/-- The gain's row. -/
theorem gain (c : Dev nD) (t : Fin cfg0.N) (k : Fin 1024) :
    iblk m c 3 t (ix2 0 k) = m ((c : Thread nD τ).loc main_arg3) (ix1 k) := by
  have h : iblk m c 3 t (ix2 0 k) = V m c main_v0 (ix2 0 k) := by blk_ext [iblk, idx t]
  rw [h, vgain]
  pointwise

/-- The bias's row. -/
theorem bias (c : Dev nD) (t : Fin cfg0.N) (k : Fin 1024) :
    iblk m c 4 t (ix2 0 k) = m ((c : Thread nD τ).loc main_arg4) (ix1 k) := by
  have h : iblk m c 4 t (ix2 0 k) = V m c main_v1 (ix2 0 k) := by blk_ext [iblk, idx t]
  rw [h, vbias]
  pointwise

/-- The block's output after the run. -/
theorem final5 (c : Dev nD) : (dats m 0 c).arrAt 5 cfg0.N = fun i : S8192x1024.Idx => Ln.out (resid (fun j => relu2 (m ((c : Thread nD τ).loc main_arg0) j)) (m ((c : Thread nD τ).loc main_arg1)) (m ((c : Thread nD τ).loc main_arg2)) (i 0))
    (fun k => m ((c : Thread nD τ).loc main_arg3) (ix1 k)) (fun k => m ((c : Thread nD τ).loc main_arg4) (ix1 k)) (i 1) := by
  refine (dats m 0 c).arrAt_eq_of_covers 5 _ (by decide +kernel) fun t hf y => ?_
  blk_simp
  rw [after0_5]
  unfold out0_5
  rw [View.canon_unit_zero corner]
  simp only [View.ld_unit_zero (S := S512x1024) corner, View.ld_unit_zero (S := S512x4096) corner, View.ld_unit_zero (S := S4096x1024) corner, View.ld_unit_zero (S := S1x1024) corner]
  rw [pay5, funext (gain m c t), funext (bias m c t)]
  exact congrArg₂ (fun z k => Ln.out z _ _ k) (rowOf m c t (y 0) _ (by blk_simp [idx t]; try omega)) (Fin.ext (by blk_simp [idx t]; try simp))

/-- The normalised residual after the run. -/
theorem final6 (c : Dev nD) : (dats m 0 c).arrAt 6 cfg0.N = fun i : S8192x1024.Idx => xhat (resid (fun j => relu2 (m ((c : Thread nD τ).loc main_arg0) j)) (m ((c : Thread nD τ).loc main_arg1)) (m ((c : Thread nD τ).loc main_arg2)) (i 0)) (i 1) := by
  refine (dats m 0 c).arrAt_eq_of_covers 6 _ (by decide +kernel) fun t hf y => ?_
  blk_simp
  rw [after0_6]
  unfold out0_6
  rw [View.canon_unit_zero corner]
  simp only [View.ld_unit_zero (S := S512x1024) corner, View.ld_unit_zero (S := S512x4096) corner, View.ld_unit_zero (S := S4096x1024) corner]
  rw [pay4]
  exact congrArg₂ xhat (rowOf m c t (y 0) _ (by blk_simp [idx t]; try omega)) (Fin.ext (by blk_simp [idx t]; try simp))

/-- The reciprocal standard deviations after the run. -/
theorem final7 (c : Dev nD) : (dats m 0 c).arrAt 7 cfg0.N = fun i : S8192x1.Idx => rs (resid (fun j => relu2 (m ((c : Thread nD τ).loc main_arg0) j)) (m ((c : Thread nD τ).loc main_arg1)) (m ((c : Thread nD τ).loc main_arg2)) (i 0)) := by
  refine (dats m 0 c).arrAt_eq_of_covers 7 _ (by decide +kernel) fun t hf y => ?_
  blk_simp
  rw [after0_7]
  unfold out0_7
  rw [View.canon_unit_zero corner]
  simp only [View.ld_unit_zero (S := S512x1024) corner, View.ld_unit_zero (S := S512x4096) corner, View.ld_unit_zero (S := S4096x1024) corner]
  rw [pay3]
  exact congrArg rs (rowOf m c t (y 0) _ (by blk_simp [idx t]; try omega))

end Cert.Kernel7Ideal.Value

namespace Cert.Reference7Ideal.Ln7

open Idealize.ShloMosaic Idealize.ShloMosaic.TcCoe
open Cert.Reference7Ideal Cert.Reference7Ideal.Gen Cert.Reference7Ideal.Read Cert.Ln Cert.Ff

variable (O : (⟨S8192x4096, .bf16⟩ : BufTy).Contents (Elt Ideal)) (W : (⟨S4096x1024, .bf16⟩ : BufTy).Contents (Elt Ideal))
  (X : (⟨S8192x1024, .f32⟩ : BufTy).Contents (Elt Ideal)) (g b : (⟨S1024, .f32⟩ : BufTy).Contents (Elt Ideal))

/-- The reference's residual. -/
theorem v7 (i : S8192x1024.Idx) : val_main_v7 (F := Ideal) O W X i = resid (fun j => relu2 (O j)) W X (i 0) (i 1) := by
  unfold resid relu2
  pointwise [val_main_v7, val_main_v6, val_main_v5, val_main_v4, val_main_v3, val_main_v2, val_main_v1, val_main_v0, val_main_cst,
    val_main_call0_v0, val_main_call0_cst]

/-- The reference's mean. -/
theorem v11 (i : S8192x1.Idx) : val_main_v11 (F := Ideal) O W X i = mean (resid (fun j => relu2 (O j)) W X (i 0)) := by
  have h : ∀ k, val_main_v7 (F := Ideal) O W X (ix2 (i 0) k) = resid (fun j => relu2 (O j)) W X (i 0) k := fun k => v7 O W X (ix2 (i 0) k)
  refine Eq.trans ?_ (congrArg mean (funext h))
  unfold mean
  pointwise [val_main_v11, val_main_v10, val_main_v9, val_main_v8, val_main_cst_0, val_main_cst_1]

/-- The reference's residual less its mean. -/
theorem v13 (i : S8192x1024.Idx) : val_main_v13 (F := Ideal) O W X i = cent (resid (fun j => relu2 (O j)) W X (i 0)) (i 1) := by
  refine Eq.trans ?_ (congrArg₂ (· - ·) (v7 O W X i) (v11 O W X (ix2 (i 0) 0)))
  pointwise [val_main_v13, val_main_v12]

/-- The reference's reciprocal standard deviation. -/
theorem v21 (i : S8192x1.Idx) : val_main_v21 (F := Ideal) O W X i = rs (resid (fun j => relu2 (O j)) W X (i 0)) := by
  have h : ∀ k, val_main_v13 (F := Ideal) O W X (ix2 (i 0) k) = cent (resid (fun j => relu2 (O j)) W X (i 0)) k := fun k => v13 O W X (ix2 (i 0) k)
  unfold rs
  refine Eq.trans ?_ (congrArg (fun f => Ideal.rsqrt (mean f + Ideal.ofBits .f32 0x3727C5AC#32)) (funext fun k => congrArg₂ (· * ·) (h k) (h k)))
  unfold mean
  pointwise [val_main_v21, val_main_v20, val_main_v19, val_main_cst_4, val_main_v18, val_main_v17, val_main_cst_3, val_main_v16, val_main_v15,
    val_main_cst_2, val_main_v14]

/-- The reference's normalised residual, as the block's output reads it. -/
theorem v25 (i : S8192x1024.Idx) : val_main_v25 (F := Ideal) O W X i = xhat (resid (fun j => relu2 (O j)) W X (i 0)) (i 1) := by
  refine Eq.trans ?_ (congrArg₂ (· * ·) (v13 O W X i) (v21 O W X (ix2 (i 0) 0)))
  pointwise [val_main_v25, val_main_v24, val_main_v23, val_main_v22, val_main_v13, val_main_v12]

/-- The reference's normalised residual. -/
theorem v35 (i : S8192x1024.Idx) : val_main_v35 (F := Ideal) O W X i = xhat (resid (fun j => relu2 (O j)) W X (i 0)) (i 1) := by
  refine Eq.trans ?_ (congrArg₂ (· * ·) (v13 O W X i) (v21 O W X (ix2 (i 0) 0)))
  pointwise [val_main_v35, val_main_v34, val_main_v33, val_main_v32, val_main_v13, val_main_v12]

/-- The reference's output of the block. -/
theorem v31 (i : S8192x1024.Idx) : val_main_v31 (F := Ideal) O W X g b i
    = Ln.out (resid (fun j => relu2 (O j)) W X (i 0)) (fun k => g (ix1 k)) (fun k => b (ix1 k)) (i 1) := by
  unfold Ln.out
  refine Eq.trans ?_ (congrArg₂ (· + ·) (congrArg (· * _) (v25 O W X i)) rfl)
  pointwise [val_main_v31, val_main_v30, val_main_v29, val_main_v28, val_main_v27, val_main_v26]

end Cert.Reference7Ideal.Ln7

end
-- ==== Proof.MixOut.lean ====
/- The mixer's output projection with its residual, layer normalisation and the queries' product: the text of the attention's output projection, with
   another last product. -/
module

public import proofs.«01_k».proof.Proof.OProj
public import proofs.«01_k».proof.Proof.Gen.Kernel8Ideal.Value
public import proofs.«01_k».proof.Proof.Gen.Reference8Ideal.Read

@[expose] public section

set_option maxRecDepth 16384

noncomputable section

namespace Cert.Kernel8Ideal.Value

open Idealize.ShloMosaic Idealize.ShloMosaic.TcCoe Idealize.SL.Sem
open Cert.Kernel8Ideal Cert.Kernel8Ideal.Gen Cert.Ln
open Cert.Kernel6Ideal.Value (corner)
open Idealize.ShloMosaic.Pipeline (Dat)

section Block

variable (o : Vec Ideal S512x1024 .bf16) (x : Vec Ideal S512x1024 .f32) (w : Vec Ideal S1024x1024 .bf16)

/-- The reciprocal standard deviation: the other call's. -/
theorem pay3 (y : S512x1.Idx) : k0_pay3 o x w y = rs (resid o w x (y 0)) := Cert.Kernel6Ideal.Value.pay3 o x w y

/-- The normalised residual: the other call's. -/
theorem pay4 (y : S512x1024.Idx) : k0_pay4 o x w y = xhat (resid o w x (y 0)) (y 1) := Cert.Kernel6Ideal.Value.pay4 o x w y

/-- … with gain and bias. -/
theorem pay5 (g b : Vec Ideal S1x1024 .f32) (y : S512x1024.Idx) : k0_pay5 o x w g b y
    = Ln.out (resid o w x (y 0)) (fun k => g (ix2 0 k)) (fun k => b (ix2 0 k)) (y 1) := Cert.Kernel6Ideal.Value.pay5 o x w g b y

/-- The queries' product. -/
theorem pay1 (x1 : Vec Ideal S512x1024 .f32) (wq : Vec Ideal S1024x1024 .bf16) (y : S512x1024.Idx) : k0_pay1 x1 wq y
    = ∑ k : Fin 1024, x1 (ix2 (y 0) k) * wq (ix2 k (y 1)) := by
  pointwise [k0_pay1]

end Block

variable (m : (ℓ : Loc nD τ sig) → Buf (Elt Ideal) ℓ)

/-- The block indices of the windows at a grid point. -/
theorem idx : ∀ t : Fin cfg0.N, win0_0.index t = ![t.val, 0] ∧ win0_1.index t = ![0, 0] ∧ win0_2.index t = ![t.val, 0] ∧
    win0_3.index t = ![0, 0] ∧ win0_4.index t = ![0, 0] ∧ win0_5.index t = ![0, 0] ∧ win0_6.index t = ![t.val, 0] ∧
    win0_7.index t = ![t.val, 0] ∧ win0_8.index t = ![t.val, 0] ∧ win0_9.index t = ![t.val, 0] :=
  (by decide +kernel : ∀ t : Fin grid0.N, _)

/-- There are sixteen grid points. -/
theorem lt16 (t : Fin cfg0.N) : t.val < 16 := lt_of_lt_of_eq t.isLt (show cfg0.N = 16 from N_0)

/-- A block's row of the residual is the array's. -/
theorem rowOf (c : Dev nD) (t : Fin cfg0.N) (r : Fin 512) (i : Fin 8192) (h : i.val = 512 * t.val + r.val) :
    resid (iblk m c 0 t) (iblk m c 1 t) (iblk m c 2 t) r
    = resid (m ((c : Thread nD τ).loc main_arg0)) (m ((c : Thread nD τ).loc main_arg1)) (m ((c : Thread nD τ).loc main_arg2)) i := by
  funext k
  unfold resid
  refine congrArg₂ (· + ·) (congrArg _ ?_) (Finset.sum_congr rfl fun l _ => congrArg₂ (· * ·) ?_ ?_)
  · blk_ext [iblk, V, idx t]
  · blk_ext [iblk, V, idx t]
  · blk_ext [iblk, V, idx t]

/-- The gain as the launch finds it. -/
theorem vgain (c : Dev nD) : V m c main_v0 = shapeCast S1x1024 (m ((c : Thread nD τ).loc main_arg3)) shapeCasts_S1024_S1x1024 := by
  unfold V; after_results; try rfl

/-- The bias as the launch finds it. -/
theorem vbias (c : Dev nD) : V m c main_v1 = shapeCast S1x1024 (m ((c : Thread nD τ).loc main_arg4)) shapeCasts_S1024_S1x1024 := by
  unfold V; after_results; try rfl

/-- The gain's row. -/
theorem gain (c : Dev nD) (t : Fin cfg0.N) (k : Fin 1024) :
    iblk m c 3 t (ix2 0 k) = m ((c : Thread nD τ).loc main_arg3) (ix1 k) := by
  have h : iblk m c 3 t (ix2 0 k) = V m c main_v0 (ix2 0 k) := by blk_ext [iblk, idx t]
  rw [h, vgain]
  pointwise

/-- The bias's row. -/
theorem bias (c : Dev nD) (t : Fin cfg0.N) (k : Fin 1024) :
    iblk m c 4 t (ix2 0 k) = m ((c : Thread nD τ).loc main_arg4) (ix1 k) := by
  have h : iblk m c 4 t (ix2 0 k) = V m c main_v1 (ix2 0 k) := by blk_ext [iblk, idx t]
  rw [h, vbias]
  pointwise

/-- The block's output after the run. -/
theorem final6 (c : Dev nD) : (dats m 0 c).arrAt 6 cfg0.N = fun i : S8192x1024.Idx => Ln.out (resid (m ((c : Thread nD τ).loc main_arg0)) (m ((c : Thread nD τ).loc main_arg1)) (m ((c : Thread nD τ).loc main_arg2)) (i 0))
    (fun k => m ((c : Thread nD τ).loc main_arg3) (ix1 k)) (fun k => m ((c : Thread nD τ).loc main_arg4) (ix1 k)) (i 1) := by
  refine (dats m 0 c).arrAt_eq_of_covers 6 _ (by decide +kernel) fun t hf y => ?_
  blk_simp
  rw [after0_6]
  unfold out0_6 k0_pay6
  rw [View.canon_unit_zero corner]
  simp only [View.ld_unit_zero (S := S512x1024) corner, View.ld_unit_zero (S := S1024x1024) corner, View.ld_unit_zero (S := S1x1024) corner]
  rw [pay5, funext (gain m c t), funext (bias m c t)]
  exact congrArg₂ (fun z k => Ln.out z _ _ k) (rowOf m c t (y 0) _ (by blk_simp [idx t]; try omega)) (Fin.ext (by blk_simp [idx t]; try simp))

/-- The normalised residual after the run. -/
theorem final7 (c : Dev nD) : (dats m 0 c).arrAt 7 cfg0.N = fun i : S8192x1024.Idx => xhat (resid (m ((c : Thread nD τ).loc main_arg0)) (m ((c : Thread nD τ).loc main_arg1)) (m ((c : Thread nD τ).loc main_arg2)) (i 0)) (i 1) := by
  refine (dats m 0 c).arrAt_eq_of_covers 7 _ (by decide +kernel) fun t hf y => ?_
  blk_simp
  rw [after0_7]
  unfold out0_7
  rw [View.canon_unit_zero corner]
  simp only [View.ld_unit_zero (S := S512x1024) corner, View.ld_unit_zero (S := S1024x1024) corner]
  rw [pay4]
  exact congrArg₂ xhat (rowOf m c t (y 0) _ (by blk_simp [idx t]; try omega)) (Fin.ext (by blk_simp [idx t]; try simp))

/-- The reciprocal standard deviations after the run. -/
theorem final8 (c : Dev nD) : (dats m 0 c).arrAt 8 cfg0.N = fun i : S8192x1.Idx => rs (resid (m ((c : Thread nD τ).loc main_arg0)) (m ((c : Thread nD τ).loc main_arg1)) (m ((c : Thread nD τ).loc main_arg2)) (i 0)) := by
  refine (dats m 0 c).arrAt_eq_of_covers 8 _ (by decide +kernel) fun t hf y => ?_
  blk_simp
  rw [after0_8]
  unfold out0_8
  rw [View.canon_unit_zero corner]
  simp only [View.ld_unit_zero (S := S512x1024) corner, View.ld_unit_zero (S := S1024x1024) corner]
  rw [pay3]
  exact congrArg rs (rowOf m c t (y 0) _ (by blk_simp [idx t]; try omega))

/-- The queries after the run. -/
theorem final9 (c : Dev nD) : (dats m 0 c).arrAt 9 cfg0.N = fun i : S8192x1024.Idx => ∑ k : Fin 1024, Ln.out (resid (m ((c : Thread nD τ).loc main_arg0)) (m ((c : Thread nD τ).loc main_arg1)) (m ((c : Thread nD τ).loc main_arg2)) (i 0))
    (fun k => m ((c : Thread nD τ).loc main_arg3) (ix1 k)) (fun k => m ((c : Thread nD τ).loc main_arg4) (ix1 k)) k
    * m ((c : Thread nD τ).loc main_arg5) (ix2 k (i 1)) := by
  refine (dats m 0 c).arrAt_eq_of_covers 9 _ (by decide +kernel) fun t hf y => ?_
  blk_simp
  rw [after0_9]
  unfold out0_9 k0_pay6
  rw [View.canon_unit_zero corner]
  simp only [View.ld_unit_zero (S := S512x1024) corner, View.ld_unit_zero (S := S1024x1024) corner, View.ld_unit_zero (S := S1x1024) corner]
  rw [pay1]
  refine Finset.sum_congr (M := EReal) rfl fun k _ => congrArg₂ (· * ·) ?_ ?_
  · rw [pay5, funext (gain m c t), funext (bias m c t)]
    exact congrArg (fun z => Ln.out z _ _ k) (rowOf m c t (y 0) _ (by blk_simp [idx t]; try omega))
  · blk_ext [iblk, V, idx t]

end Cert.Kernel8Ideal.Value

namespace Cert.Reference8Ideal.Ln8

open Idealize.ShloMosaic Idealize.ShloMosaic.TcCoe
open Cert.Reference8Ideal Cert.Reference8Ideal.Gen Cert.Reference8Ideal.Read Cert.Ln

variable (O : (⟨S8192x1024, .bf16⟩ : BufTy).Contents (Elt Ideal)) (W : (⟨S1024x1024, .bf16⟩ : BufTy).Contents (Elt Ideal))
  (X : (⟨S8192x1024, .f32⟩ : BufTy).Contents (Elt Ideal)) (g b : (⟨S1024, .f32⟩ : BufTy).Contents (Elt Ideal))
  (W1 : (⟨S1024x1024, .bf16⟩ : BufTy).Contents (Elt Ideal))

/-- The reference's reciprocal standard deviation: the other reference's. -/
theorem v19 (i : S8192x1.Idx) : val_main_v19 (F := Ideal) O W X i = rs (resid O W X (i 0)) := Cert.Reference6Ideal.Ln6.v19 O W X i

/-- The reference's normalised residual: the other reference's. -/
theorem v33 (i : S8192x1024.Idx) : val_main_v33 (F := Ideal) O W X i = xhat (resid O W X (i 0)) (i 1) := Cert.Reference6Ideal.Ln6.v33 O W X i

/-- The reference's output of the block: the other reference's. -/
theorem v29 (i : S8192x1024.Idx) : val_main_v29 (F := Ideal) O W X g b i
    = Ln.out (resid O W X (i 0)) (fun k => g (ix1 k)) (fun k => b (ix1 k)) (i 1) := Cert.Reference6Ideal.Ln6.v29 O W X g b i

/-- The reference's queries. -/
theorem v36 (i : S8192x1024.Idx) : val_main_v36 (F := Ideal) O W X g b W1 i = ∑ k : Fin 1024,
    Ln.out (resid O W X (i 0)) (fun k => g (ix1 k)) (fun k => b (ix1 k)) k * W1 (ix2 k (i 1)) := by
  refine Eq.trans ?_ (Finset.sum_congr rfl fun k _ => congrArg (· * _) (v29 O W X g b (ix2 (i 0) k)))
  pointwise [val_main_v36, val_main_v35, val_main_v34]

end Cert.Reference8Ideal.Ln8

end
-- ==== Proof.InProj.lean ====
/- The mixer's joined input product, forward, and its backward pass to the layer's input. -/
module

public import proofs.«01_k».proof.Proof.Gen.Kernel9Ideal.Value
public import proofs.«01_k».proof.Proof.Gen.Reference9Ideal.Read
public import proofs.«01_k».proof.Proof.Gen.Kernel11Ideal.Value
public import proofs.«01_k».proof.Proof.Gen.Reference11Ideal.Read
public import Idealize.ShloMosaic.Lib.Pipeline.ValueKit
public import Idealize.ShloMosaic.Lib.Pointwise

@[expose] public section

set_option maxRecDepth 16384

noncomputable section

namespace Cert.InProj

open Idealize.ShloMosaic

/-- The input product. -/
def fwd (X : (⟨2, ![8192, 1024]⟩ : Shape).Idx → EReal) (W : (⟨2, ![1024, 2432]⟩ : Shape).Idx → EReal)
    (i : (⟨2, ![8192, 2432]⟩ : Shape).Idx) : EReal := ∑ k : Fin 1024, X (ix2 (i 0) k) * W (ix2 k (i 1))

/-- The gradient of the layer's input: the scaled residual's and the product's. -/
def bwd (Z : (⟨2, ![8192, 1024]⟩ : Shape).Idx → EReal) (P : (⟨2, ![8192, 2432]⟩ : Shape).Idx → EReal)
    (W : (⟨2, ![1024, 2432]⟩ : Shape).Idx → EReal) (i : (⟨2, ![8192, 1024]⟩ : Shape).Idx) : EReal :=
  Ideal.ofBits .f32 0x3FD744FD#32 * Z i + ∑ k : Fin 2432, P (ix2 (i 0) k) * W (ix2 (i 1) k)

end Cert.InProj

namespace Cert.Kernel9Ideal.Value

open Idealize.ShloMosaic Idealize.ShloMosaic.TcCoe Idealize.SL.Sem
open Cert.Kernel9Ideal Cert.Kernel9Ideal.Gen Cert.InProj
open Idealize.ShloMosaic.Pipeline (Dat)

/-- The whole block's corner. -/
theorem corner : (![0, 0] : Fin 2 → ℕ) = fun _ => 0 := by decide

/-- What the body stores, element by element. -/
theorem pay1 (x : Vec Ideal S512x1024 .f32) (w : Vec Ideal S1024x2432 .bf16) (y : S512x2432.Idx) :
    k0_pay1 x w y = ∑ k : Fin 1024, x (ix2 (y 0) k) * w (ix2 k (y 1)) := by
  pointwise [k0_pay1]

variable (m : (ℓ : Loc nD τ sig) → Buf (Elt Ideal) ℓ)

/-- The block indices of the windows at a grid point. -/
theorem idx : ∀ t : Fin cfg0.N, win0_0.index t = ![t.val, 0] ∧ win0_1.index t = ![0, 0] ∧ win0_2.index t = ![t.val, 0] :=
  (by decide +kernel : ∀ t : Fin grid0.N, _)

/-- The input product after the run. -/
theorem final (c : Dev nD) : (dats m 0 c).arrAt 2 cfg0.N = fwd (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  rw [View.canon_unit_zero corner]
  simp only [View.ld_unit_zero (S := S512x1024) corner, View.ld_unit_zero (S := S1024x2432) corner]
  rw [pay1]
  unfold fwd
  refine Finset.sum_congr (M := EReal) rfl fun k _ => congrArg₂ (· * ·) ?_ ?_
  · blk_ext [iblk, V, idx t]
  · blk_ext [iblk, V, idx t]

end Cert.Kernel9Ideal.Value

namespace Cert.Reference9Ideal.InProj

open Idealize.ShloMosaic Idealize.ShloMosaic.TcCoe
open Cert.Reference9Ideal Cert.Reference9Ideal.Gen Cert.Reference9Ideal.Read

/-- The reference's input product. -/
theorem v2 (X : (⟨S8192x1024, .f32⟩ : BufTy).Contents (Elt Ideal)) (W : (⟨S1024x2432, .bf16⟩ : BufTy).Contents (Elt Ideal)) :
    val_main_v2 (F := Ideal) X W = Cert.InProj.fwd X W := by
  funext i
  unfold Cert.InProj.fwd
  pointwise [val_main_v2, val_main_v1, val_main_v0]

end Cert.Reference9Ideal.InProj

namespace Cert.Kernel11Ideal.Value

open Idealize.ShloMosaic Idealize.ShloMosaic.TcCoe Idealize.SL.Sem
open Cert.Kernel11Ideal Cert.Kernel11Ideal.Gen Cert.InProj
open Idealize.ShloMosaic.Pipeline (Dat)

/-- What the body stores, element by element. -/
theorem pay1 (z : Vec Ideal S512x1024 .f32) (p : Vec Ideal S512x2432 .bf16) (w : Vec Ideal S1024x2432 .bf16) (y : S512x1024.Idx) :
    k0_pay1 z p w y = Ideal.ofBits .f32 0x3FD744FD#32 * z y + ∑ k : Fin 2432, p (ix2 (y 0) k) * w (ix2 (y 1) k) := by
  pointwise [k0_pay1]

variable (m : (ℓ : Loc nD τ sig) → Buf (Elt Ideal) ℓ)

/-- The block indices of the windows at a grid point. -/
theorem idx : ∀ t : Fin cfg0.N, win0_0.index t = ![t.val, 0] ∧ win0_1.index t = ![t.val, 0] ∧ win0_2.index t = ![0, 0] ∧
    win0_3.index t = ![t.val, 0] :=
  (by decide +kernel : ∀ t : Fin grid0.N, _)

/-- The gradient of the layer's input after the run. -/
theorem final (c : Dev nD) : (dats m 0 c).arrAt 3 cfg0.N = bwd (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  unfold out0_3
  rw [View.canon_unit_zero Cert.Kernel9Ideal.Value.corner]
  simp only [View.ld_unit_zero (S := S512x1024) Cert.Kernel9Ideal.Value.corner, View.ld_unit_zero (S := S1024x2432) Cert.Kernel9Ideal.Value.corner,
    View.ld_unit_zero (S := S512x2432) Cert.Kernel9Ideal.Value.corner]
  rw [pay1]
  unfold bwd
  refine congrArg₂ (· + ·) (congrArg _ ?_) (Finset.sum_congr rfl fun k _ => congrArg₂ (· * ·) ?_ ?_)
  · blk_ext [iblk, V, idx t]
  · blk_ext [iblk, V, idx t]
  · blk_ext [iblk, V, idx t]

end Cert.Kernel11Ideal.Value

namespace Cert.Reference11Ideal.InProj

open Idealize.ShloMosaic Idealize.ShloMosaic.TcCoe
open Cert.Reference11Ideal Cert.Reference11Ideal.Gen Cert.Reference11Ideal.Read

/-- The reference's gradient of the layer's input. -/
theorem v9 (Z : (⟨S8192x1024, .f32⟩ : BufTy).Contents (Elt Ideal)) (P : (⟨S8192x2432, .bf16⟩ : BufTy).Contents (Elt Ideal))
    (W : (⟨S1024x2432, .bf16⟩ : BufTy).Contents (Elt Ideal)) : val_main_v9 (F := Ideal) Z P W = Cert.InProj.bwd Z P W := by
  funext i
  unfold Cert.InProj.bwd
  refine Eq.trans ?_ (add_comm _ _)
  pointwise [val_main_v9, val_main_v8, val_main_v7, val_main_cst_1, val_main_v6, val_main_v5, val_main_v3]

end Cert.Reference11Ideal.InProj

end
-- ==== Proof.WgDefs.lean ====
/- The gradient of a projection's matrix: blocks of 1024 rows, accumulated, are one product over all the rows. -/
module

public import Idealize.ShloMosaic.Lib.Pipeline.ValueKit
public import Idealize.ShloMosaic.Lib.Pointwise

@[expose] public section

set_option maxRecDepth 16384

noncomputable section

namespace Cert.Wg

open Idealize.ShloMosaic

/-- The gradient of a product's matrix: the first operand transposed times the product's gradient. -/
def dW {n m : ℕ} (X : (⟨2, ![8192, n]⟩ : Shape).Idx → EReal) (Z : (⟨2, ![8192, m]⟩ : Shape).Idx → EReal) (a : Fin n) (b : Fin m) : EReal :=
  ∑ r : Fin 8192, X (ix2 r a) * Z (ix2 r b)

/-- Eight points that begin from zero and each add the product of their block of 1024 rows leave the whole gradient. -/
theorem point {N n m : ℕ} (f : (k : ℕ) → k < N → (⟨2, ![n, m]⟩ : Shape).Idx → EReal) (A : Fin N → (⟨2, ![1024, n]⟩ : Shape).Idx → EReal)
    (B : Fin N → (⟨2, ![1024, m]⟩ : Shape).Idx → EReal) (X : (⟨2, ![8192, n]⟩ : Shape).Idx → EReal)
    (Z : (⟨2, ![8192, m]⟩ : Shape).Idx → EReal) (hN : N = 8)
    (h0 : ∀ t : Fin N, t.val % 8 = 0 → ∀ i, f t.val t.isLt i = 0 + ∑ r : Fin 1024, A t (ix2 r (i 0)) * B t (ix2 r (i 1)))
    (hs : ∀ t : Fin N, ¬t.val % 8 = 0 → ∀ i, f t.val t.isLt i
      = f (t.val - 1) (Nat.lt_of_le_of_lt (Nat.sub_le _ _) t.isLt) i + ∑ r : Fin 1024, A t (ix2 r (i 0)) * B t (ix2 r (i 1)))
    (hA : ∀ t r a, A t (ix2 r a) = X (ix2 ⟨1024 * t.val + r.val, by omega⟩ a))
    (hB : ∀ t r b, B t (ix2 r b) = Z (ix2 ⟨1024 * t.val + r.val, by omega⟩ b))
    (t : Fin N) (hf : t.val % 8 = 7) (y : (⟨2, ![n, m]⟩ : Shape).Idx) (z0 : Fin n) (z1 : Fin m) (e0 : z0.val = (y 0).val)
    (e1 : z1.val = (y 1).val) : f t.val t.isLt y = dW X Z z0 z1 := by
  obtain rfl : z0 = y 0 := Fin.ext e0
  obtain rfl : z1 = y 1 := Fin.ext e1
  subst hN
  rw [Pipeline.eq_sum_fin_of_reset_step_apply_of_flush f 8 (fun _ => (0 : EReal))
    (fun t i => ∑ r : Fin 1024, A t (ix2 r (i 0)) * B t (ix2 r (i 1))) h0 hs t hf y, zero_add]
  unfold dW
  refine Fin.sum_mul_add_congr fun s k hl => ?_
  refine congrArg₂ (· * ·) ((hA _ k (y 0)).trans ?_) ((hB _ k (y 1)).trans ?_)
  · exact congrArg (fun r => X (ix2 r (y 0))) (Fin.ext (by show 1024 * (8 * (t.val / 8) + s.val) + k.val = s.val * 1024 + k.val; omega))
  · exact congrArg (fun r => Z (ix2 r (y 1))) (Fin.ext (by show 1024 * (8 * (t.val / 8) + s.val) + k.val = s.val * 1024 + k.val; omega))

end Cert.Wg

end
-- ==== Proof.InWgrad.lean ====
/- The gradient of the mixer's joined input matrix. -/
module

public import proofs.«01_k».proof.Proof.WgDefs
public import proofs.«01_k».proof.Proof.Gen.Kernel10Ideal.Value
public import proofs.«01_k».proof.Proof.Gen.Reference10Ideal.Read

@[expose] public section

set_option maxRecDepth 16384

noncomputable section

namespace Cert.Kernel10Ideal.Value

open Idealize.ShloMosaic Idealize.ShloMosaic.TcCoe Idealize.SL.Sem
open Cert.Kernel10Ideal Cert.Kernel10Ideal.Gen
open Idealize.ShloMosaic.Pipeline (Dat)

/-- A run starts from zero. -/
theorem pay1 (x : S1024x2432.Idx) : (show EReal from k0_pay1 (F := Ideal) x) = 0 := by
  pointwise! [k0_pay1]

/-- What a point adds to what it found. -/
theorem pay2 (a : Vec Ideal S1024x1024 .f32) (s : Vec Ideal S1024x2432 .f32) (b : Vec Ideal S1024x2432 .bf16) (x : S1024x2432.Idx) :
    k0_pay2 a s b x = s x + ∑ r : Fin 1024, a (ix2 r (x 0)) * b (ix2 r (x 1)) := by
  pointwise [k0_pay2]

variable (m : (ℓ : Loc nD τ sig) → Buf (Elt Ideal) ℓ)

/-- The block indices of the windows at a grid point. -/
theorem idx : ∀ t : Fin cfg0.N, win0_0.index t = ![t.val, 0] ∧ win0_1.index t = ![t.val, 0] ∧ win0_2.index t = ![0, 0] :=
  (by decide +kernel : ∀ t : Fin grid0.N, _)

/-- The input matrix's gradient after the run. -/
theorem final (c : Dev nD) : (dats m 0 c).arrAt 2 cfg0.N = fun i => Wg.dW (m ((c : Thread nD τ).loc main_arg0))
    (m ((c : Thread nD τ).loc main_arg1)) (i 0) (i 1) := by
  refine (dats m 0 c).arrAt_eq_of_covers 2 _ (by decide +kernel) fun t hf y => ?_
  blk_simp
  rw [after0_2]
  exact Wg.point (fun n h => outsAt0 m c n h) (iblk m c 0) (iblk m c 1) _ _ N_0
    (fun t h i => by rw [outsAt0_A m c t h, out_A_2_eq, pay2]; exact congrArg (· + _) (pay1 _))
    (fun t h i => by rw [outsAt0_B m c t h, out_B_2_eq, pay2])
    (fun t r a => by blk_ext [iblk, V, idx t]) (fun t r b => by blk_ext [iblk, V, idx t])
    t ((flush0_2 t).mp hf) y _ _ (by blk_simp [idx t]) (by blk_simp [idx t])

end Cert.Kernel10Ideal.Value

namespace Cert.Reference10Ideal.Wg

open Idealize.ShloMosaic Idealize.ShloMosaic.TcCoe
open Cert.Reference10Ideal Cert.Reference10Ideal.Gen Cert.Reference10Ideal.Read

/-- The reference's. -/
theorem v4 (X : (⟨S8192x1024, .f32⟩ : BufTy).Contents (Elt Ideal)) (Z : (⟨S8192x2432, .bf16⟩ : BufTy).Contents (Elt Ideal)) :
    val_main_v4 (F := Ideal) X Z = fun i => Cert.Wg.dW X Z (i 0) (i 1) := by
  funext i
  unfold Cert.Wg.dW
  refine Eq.trans ?_ (Finset.sum_congr rfl fun r _ => mul_comm _ _)
  pointwise [val_main_v4, val_main_v3, val_main_v2]

end Cert.Reference10Ideal.Wg

end
-- ==== Proof.OWgrad.lean ====
/- The gradient of an output matrix: the attention's, and with the same shapes the mixer's. -/
module

public import proofs.«01_k».proof.Proof.WgDefs
public import proofs.«01_k».proof.Proof.Gen.Kernel12Ideal.Value
public import proofs.«01_k».proof.Proof.Gen.Reference12Ideal.Read

@[expose] public section

set_option maxRecDepth 16384

noncomputable section

namespace Cert.Kernel12Ideal.Value

open Idealize.ShloMosaic Idealize.ShloMosaic.TcCoe Idealize.SL.Sem
open Cert.Kernel12Ideal Cert.Kernel12Ideal.Gen
open Idealize.ShloMosaic.Pipeline (Dat)

/-- A run starts from zero. -/
theorem pay1 (x : S1024x1024.Idx) : (show EReal from k0_pay1 (F := Ideal) x) = 0 := by
  pointwise! [k0_pay1]

/-- What a point adds to what it found. -/
theorem pay2 (a : Vec Ideal S1024x1024 .bf16) (s : Vec Ideal S1024x1024 .f32) (b : Vec Ideal S1024x1024 .f32) (x : S1024x1024.Idx) :
    k0_pay2 a s b x = s x + ∑ r : Fin 1024, a (ix2 r (x 0)) * b (ix2 r (x 1)) := by
  pointwise [k0_pay2]

variable (m : (ℓ : Loc nD τ sig) → Buf (Elt Ideal) ℓ)

/-- The block indices of the windows at a grid point. -/
theorem idx : ∀ t : Fin cfg0.N, win0_0.index t = ![t.val, 0] ∧ win0_1.index t = ![t.val, 0] ∧ win0_2.index t = ![0, 0] :=
  (by decide +kernel : ∀ t : Fin grid0.N, _)

/-- The output matrix's gradient after the run. -/
theorem final (c : Dev nD) : (dats m 0 c).arrAt 2 cfg0.N = fun i => Wg.dW (m ((c : Thread nD τ).loc main_arg0))
    (m ((c : Thread nD τ).loc main_arg1)) (i 0) (i 1) := by
  refine (dats m 0 c).arrAt_eq_of_covers 2 _ (by decide +kernel) fun t hf y => ?_
  blk_simp
  rw [after0_2]
  exact Wg.point (fun n h => outsAt0 m c n h) (iblk m c 0) (iblk m c 1) _ _ N_0
    (fun t h i => by rw [outsAt0_A m c t h, out_A_2_eq, pay2]; exact congrArg (· + _) (pay1 _))
    (fun t h i => by rw [outsAt0_B m c t h, out_B_2_eq, pay2])
    (fun t r a => by blk_ext [iblk, V, idx t]) (fun t r b => by blk_ext [iblk, V, idx t])
    t ((flush0_2 t).mp hf) y _ _ (by blk_simp [idx t]) (by blk_simp [idx t])

end Cert.Kernel12Ideal.Value

namespace Cert.Reference12Ideal.Wg

open Idealize.ShloMosaic Idealize.ShloMosaic.TcCoe
open Cert.Reference12Ideal Cert.Reference12Ideal.Gen Cert.Reference12Ideal.Read

/-- The reference's. -/
theorem v4 (X : (⟨S8192x1024, .bf16⟩ : BufTy).Contents (Elt Ideal)) (Z : (⟨S8192x1024, .f32⟩ : BufTy).Contents (Elt Ideal)) :
    val_main_v4 (F := Ideal) X Z = fun i => Cert.Wg.dW X Z (i 0) (i 1) := by
  funext i
  unfold Cert.Wg.dW
  refine Eq.trans ?_ (Finset.sum_congr rfl fun r _ => mul_comm _ _)
  pointwise [val_main_v4, val_main_v3, val_main_v1]

end Cert.Reference12Ideal.Wg

end
-- ==== Proof.QWgrad.lean ====
/- The gradient of the queries' matrix. -/
module

public import proofs.«01_k».proof.Proof.WgDefs
public import proofs.«01_k».proof.Proof.Gen.Kernel13Ideal.Value
public import proofs.«01_k».proof.Proof.Gen.Reference13Ideal.Read

@[expose] public section

set_option maxRecDepth 16384

noncomputable section

namespace Cert.Kernel13Ideal.Value

open Idealize.ShloMosaic Idealize.ShloMosaic.TcCoe Idealize.SL.Sem
open Cert.Kernel13Ideal Cert.Kernel13Ideal.Gen
open Idealize.ShloMosaic.Pipeline (Dat)

/-- A run starts from zero. -/
theorem pay1 (x : S1024x1024.Idx) : (show EReal from k0_pay1 (F := Ideal) x) = 0 := by
  pointwise! [k0_pay1]

/-- What a point adds to what it found. -/
theorem pay2 (a : Vec Ideal S1024x1024 .f32) (s : Vec Ideal S1024x1024 .f32) (b : Vec Ideal S1024x1024 .bf16) (x : S1024x1024.Idx) :
    k0_pay2 a s b x = s x + ∑ r : Fin 1024, a (ix2 r (x 0)) * b (ix2 r (x 1)) := by
  pointwise [k0_pay2]

variable (m : (ℓ : Loc nD τ sig) → Buf (Elt Ideal) ℓ)

/-- The block indices of the windows at a grid point. -/
theorem idx : ∀ t : Fin cfg0.N, win0_0.index t = ![t.val, 0] ∧ win0_1.index t = ![t.val, 0] ∧ win0_2.index t = ![0, 0] :=
  (by decide +kernel : ∀ t : Fin grid0.N, _)

/-- The queries' matrix's gradient after the run. -/
theorem final (c : Dev nD) : (dats m 0 c).arrAt 2 cfg0.N = fun i => Wg.dW (m ((c : Thread nD τ).loc main_arg0))
    (m ((c : Thread nD τ).loc main_arg1)) (i 0) (i 1) := by
  refine (dats m 0 c).arrAt_eq_of_covers 2 _ (by decide +kernel) fun t hf y => ?_
  blk_simp
  rw [after0_2]
  exact Wg.point (fun n h => outsAt0 m c n h) (iblk m c 0) (iblk m c 1) _ _ N_0
    (fun t h i => by rw [outsAt0_A m c t h, out_A_2_eq, pay2]; exact congrArg (· + _) (pay1 _))
    (fun t h i => by rw [outsAt0_B m c t h, out_B_2_eq, pay2])
    (fun t r a => by blk_ext [iblk, V, idx t]) (fun t r b => by blk_ext [iblk, V, idx t])
    t ((flush0_2 t).mp hf) y _ _ (by blk_simp [idx t]) (by blk_simp [idx t])

end Cert.Kernel13Ideal.Value

namespace Cert.Reference13Ideal.Wg

open Idealize.ShloMosaic Idealize.ShloMosaic.TcCoe
open Cert.Reference13Ideal Cert.Reference13Ideal.Gen Cert.Reference13Ideal.Read

/-- The reference's. -/
theorem v4 (X : (⟨S8192x1024, .f32⟩ : BufTy).Contents (Elt Ideal)) (Z : (⟨S8192x1024, .bf16⟩ : BufTy).Contents (Elt Ideal)) :
    val_main_v4 (F := Ideal) X Z = fun i => Cert.Wg.dW X Z (i 0) (i 1) := by
  funext i
  unfold Cert.Wg.dW
  refine Eq.trans ?_ (Finset.sum_congr rfl fun r _ => mul_comm _ _)
  pointwise [val_main_v4, val_main_v3, val_main_v2]

end Cert.Reference13Ideal.Wg

end
-- ==== Proof.AttnHead.lean ====
/- One head of the attention's backward pass on one block of rows: the numbers each of the kernel's stores holds, written as
   sums over the head's lanes and the memory's rows, and the payloads read as those numbers. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem

/-- The scale of the scores, one sixteenth, as the word both programs hold. -/
abbrev sc : EReal := Ideal.ofBits .f32 0x3D800000#32

/-- The scaled scores of one row `q` of queries against the rows `k m` of the memory. -/
def score (q : Fin 256 → EReal) (k : Fin 256 → Fin 256 → EReal) (m : Fin 256) : EReal := (∑ d : Fin 256, q d * k m d) * sc

/-- The largest score of the row. -/
def top (q : Fin 256 → EReal) (k : Fin 256 → Fin 256 → EReal) : EReal :=
  Finset.univ.fold max (Ideal.ofBits .f32 0xFF800000#32) fun m => score q k m

/-- The exponentials of the scores below the largest. -/
def ex (q : Fin 256 → EReal) (k : Fin 256 → Fin 256 → EReal) (m : Fin 256) : EReal := Ideal.exp (score q k m - top q k)

/-- The row's softmax. -/
def soft (q : Fin 256 → EReal) (k : Fin 256 → Fin 256 → EReal) (m : Fin 256) : EReal :=
  Ideal.div (ex q k m) (∑ n : Fin 256, ex q k n)

/-- The gradient of the row's softmax: the output's gradient `g` against the rows `v m`. -/
def dsoft (g : Fin 256 → EReal) (v : Fin 256 → Fin 256 → EReal) (m : Fin 256) : EReal := ∑ d : Fin 256, g d * v m d

/-- The gradient of the row's scores, as the kernel computes it. -/
def dscore (q g : Fin 256 → EReal) (k v : Fin 256 → Fin 256 → EReal) (m : Fin 256) : EReal :=
  soft q k m * (dsoft g v m - ∑ n : Fin 256, dsoft g v n * soft q k n) * sc

end Cert.Attn

namespace Cert.KernelIdeal.Value

open Idealize.ShloMosaic Idealize.ShloMosaic.TcCoe Idealize.SL.Sem
open Cert.KernelIdeal Cert.KernelIdeal.Gen Cert.Attn

variable (q g : Vec Ideal S512x256 .bf16) (k v : Vec Ideal S256x256 .bf16) (a : Vec Ideal S256x256 .f32)

/-- The softmax payload of head 0. -/
theorem pay7 (x) : k0_pay7 q k x = soft (fun d => q (ix2 (x 0) d)) (fun m d => k (ix2 m d)) (x 1) := by
  unfold soft ex top score
  pointwise [k0_pay7]

/-- The payload of head 0 that holds the gradient of the scores. -/
theorem pay9 (x) : k0_pay9 q k v g x
    = dscore (fun d => q (ix2 (x 0) d)) (fun d => g (ix2 (x 0) d)) (fun m d => k (ix2 m d)) (fun m d => v (ix2 m d)) (x 1) := by
  unfold dscore dsoft
  pointwise [k0_pay9, pay7]

/-- Head 0's tile of the queries' gradient. -/
theorem dq0 (x) : k0_pay11 k (k0_pay9 q k v g) x
    = ∑ m : Fin 256, dscore (fun d => q (ix2 (x 0) d)) (fun d => g (ix2 (x 0) d)) (fun m d => k (ix2 m d)) (fun m d => v (ix2 m d)) m
        * k (ix2 m (x 1)) := by
  pointwise [k0_pay11, k0_pay10, pay9]

/-- Head 0's tile of the keys' gradient: what it held, and the rows' part. -/
theorem dk0 (x) : k0_pay12 q (k0_pay9 q k v g) a x
    = a x + ∑ r : Fin 512, dscore (fun d => q (ix2 r d)) (fun d => g (ix2 r d)) (fun m d => k (ix2 m d)) (fun m d => v (ix2 m d)) (x 0)
        * q (ix2 r (x 1)) := by
  pointwise [k0_pay12, k0_pay10, pay9]

/-- Head 0's tile of the values' gradient: what it held, and the rows' part. -/
theorem dv0 (x) : k0_pay8 q k g a x
    = a x + ∑ r : Fin 512, soft (fun d => q (ix2 r d)) (fun m d => k (ix2 m d)) (x 0) * g (ix2 r (x 1)) := by
  pointwise [k0_pay8, pay7]

/-! The other heads' payloads are the same operations, cut at other places. -/

theorem dq1 : k0_pay17 k (k0_pay13 q k) (k0_pay14 v g) = k0_pay11 k (k0_pay9 q k v g) := rfl
theorem dk1 : k0_pay18 q (k0_pay13 q k) (k0_pay14 v g) a = k0_pay12 q (k0_pay9 q k v g) a := rfl
theorem dv1 : k0_pay15 q k g a = k0_pay8 q k g a := rfl
theorem dq2 : k0_pay23 k v g (k0_pay19 q k) (constant S512x256 .f32 0x00000000#32) = k0_pay11 k (k0_pay9 q k v g) := rfl
theorem dk2 : k0_pay24 q v g (k0_pay19 q k) (constant S512x256 .f32 0x00000000#32) a = k0_pay12 q (k0_pay9 q k v g) a := rfl
theorem dv2 : k0_pay21 g (k0_pay20 q k) a = k0_pay8 q k g a := rfl
theorem dq3 : k0_pay4 k v g (k0_pay25 q k) (k0_pay26 q k) = k0_pay11 k (k0_pay9 q k v g) := rfl
theorem dk3 : k0_pay5 q v g (k0_pay25 q k) (k0_pay26 q k) a = k0_pay12 q (k0_pay9 q k v g) a := rfl
theorem dv3 : k0_pay2 g (k0_pay25 q k) (k0_pay26 q k) a = k0_pay8 q k g a := rfl

end Cert.KernelIdeal.Value

end
-- ==== Proof.AttnAlg.lean ====
/- The gradient of the softmax as automatic differentiation writes it, and as the kernel does: the same numbers wherever the queries and
   the keys are finite. -/
module

public import proofs.«01_k».proof.Proof.AttnHead

@[expose] public section

set_option maxRecDepth 16384

noncomputable section

namespace Cert.Attn

open Idealize.ShloMosaic

/-- A real factor that is not negative goes over a sum of two. -/
theorem add_mul_real (x y : EReal) (r : ℝ) (hr : 0 ≤ r) : (x + y) * (r : EReal) = x * r + y * r :=
  EReal.right_distrib_of_nonneg_of_ne_top (EReal.coe_nonneg.mpr hr) (EReal.coe_ne_top r) x y

/-- A real factor that is not negative goes over a finite sum. -/
theorem sum_mul_real {ι : Type} (s : Finset ι) (f : ι → EReal) (r : ℝ) (hr : 0 ≤ r) : ∑ i ∈ s, f i * (r : EReal) = (∑ i ∈ s, f i) * r := by
  classical
  induction s using Finset.induction_on with
  | empty => simp
  | insert a s ha ih => rw [Finset.sum_insert ha, Finset.sum_insert ha, add_mul_real _ _ _ hr, ih]

/-- A finite sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Minus infinity's word. -/
theorem ofBits_ninf : Ideal.ofBits .f32 0xFF800000#32 = ⊥ := by
  simp [Ideal.ofBits, Ideal.ieee]

/-- The word of the scale is one sixteenth. -/
theorem sc_eq : sc = (((1 : ℝ) / 16 : ℝ) : EReal) := by
  unfold sc
  simp [Ideal.ofBits, Ideal.ieee, -EReal.coe_mul]; norm_num

/-- A quotient by a positive real is a product with its inverse. -/
theorem div_real (x : EReal) (z : ℝ) (hz : 0 < z) : Ideal.div x (z : EReal) = x * ((z⁻¹ : ℝ) : EReal) := by
  unfold Ideal.div
  rw [if_neg (by exact_mod_cast hz.ne'), EReal.coe_inv]

variable (q g : Fin 256 → EReal) (k v : Fin 256 → Fin 256 → EReal)

/-- Where the query and the keys are finite, so are the scores. -/
theorem score_real (hq : ∀ d, q d ≠ ⊤ ∧ q d ≠ ⊥) (hk : ∀ m d, k m d ≠ ⊤ ∧ k m d ≠ ⊥) (m : Fin 256) : ∃ s : ℝ, score q k m = s := by
  refine ⟨(∑ d, (q d).toReal * (k m d).toReal) * (1 / 16), ?_⟩
  unfold score
  rw [sc_eq, EReal.coe_mul, ← coe_sum]
  refine congrArg (· * _) (Finset.sum_congr rfl fun d _ => ?_)
  rw [EReal.coe_mul, EReal.coe_toReal (hq d).1 (hq d).2, EReal.coe_toReal (hk m d).1 (hk m d).2]

/-- … and the largest of them. -/
theorem top_real (hq : ∀ d, q d ≠ ⊤ ∧ q d ≠ ⊥) (hk : ∀ m d, k m d ≠ ⊤ ∧ k m d ≠ ⊥) : ∃ s : ℝ, top q k = s := by
  have h1 : top q k ≠ ⊤ := by
    refine ne_of_lt ((Finset.fold_max_lt _).mpr ⟨?_, fun m _ => ?_⟩)
    · rw [ofBits_ninf]; exact bot_lt_top
    · obtain ⟨s, hs⟩ := score_real q k hq hk m
      rw [hs]; exact EReal.coe_lt_top s
  have h2 : top q k ≠ ⊥ := by
    refine ne_of_gt ((Finset.lt_fold_max _).mpr (Or.inr ⟨0, Finset.mem_univ _, ?_⟩))
    obtain ⟨s, hs⟩ := score_real q k hq hk 0
    rw [hs]; exact EReal.bot_lt_coe s
  exact ⟨_, (EReal.coe_toReal h1 h2).symm⟩

/-- … so the exponentials are positive reals. -/
theorem ex_real (hq : ∀ d, q d ≠ ⊤ ∧ q d ≠ ⊥) (hk : ∀ m d, k m d ≠ ⊤ ∧ k m d ≠ ⊥) :
    ∃ a : Fin 256 → ℝ, (∀ m, 0 < a m) ∧ ∀ m, ex q k m = a m := by
  obtain ⟨t, ht⟩ := top_real q k hq hk
  choose s hs using score_real q k hq hk
  refine ⟨fun m => Real.exp (s m - t), fun m => Real.exp_pos _, fun m => ?_⟩
  unfold ex
  rw [hs, ht, ← EReal.coe_sub]
  rfl

/-- The gradient of the row's scores, as the derivative of the quotient gives it. -/
def dscoreD (q g : Fin 256 → EReal) (k v : Fin 256 → Fin 256 → EReal) (m : Fin 256) : EReal :=
  ((Ideal.div (dsoft g v m) (∑ n, ex q k n)
    + (0 + ∑ _z : Fin 1, -(0 + ∑ n, dsoft g v n * Ideal.div 1 ((∑ n, ex q k n) * ∑ n, ex q k n) * ex q k n))) * ex q k m) * sc

/-- The two forms of the gradient of the scores agree. -/
theorem dscore_eq (hq : ∀ d, q d ≠ ⊤ ∧ q d ≠ ⊥) (hk : ∀ m d, k m d ≠ ⊤ ∧ k m d ≠ ⊥) (m : Fin 256) :
    dscore q g k v m = dscoreD q g k v m := by
  obtain ⟨a, ha, he⟩ := ex_real q k hq hk
  have hz : 0 < ∑ n, a n := Finset.sum_pos (fun n _ => ha n) ⟨0, Finset.mem_univ _⟩
  have hZ : ∑ n, ex q k n = ((∑ n, a n : ℝ) : EReal) := by rw [← coe_sum]; exact Finset.sum_congr rfl fun n _ => he n
  unfold dscore dscoreD soft
  rw [hZ]
  simp only [he]
  generalize hzz : ∑ n, a n = z at hz ⊢
  generalize dsoft g v = p
  rw [← EReal.coe_mul]
  simp only [div_real _ _ hz, div_real _ _ (mul_pos hz hz)]
  have hi : 0 ≤ z⁻¹ := (inv_pos.mpr hz).le
  have e1 : ∑ n, p n * ((a n : EReal) * ((z⁻¹ : ℝ) : EReal)) = (∑ n, p n * (a n : EReal)) * ((z⁻¹ : ℝ) : EReal) := by
    rw [← sum_mul_real _ _ _ hi]
    exact Finset.sum_congr rfl fun n _ => (mul_assoc _ _ _).symm
  have e2 : ∑ n, p n * (1 * (((z * z)⁻¹ : ℝ) : EReal)) * (a n : EReal)
      = (∑ n, p n * (a n : EReal)) * ((z⁻¹ : ℝ) : EReal) * ((z⁻¹ : ℝ) : EReal) := by
    rw [← sum_mul_real _ _ _ hi, ← sum_mul_real _ _ _ hi]
    refine Finset.sum_congr rfl fun n _ => ?_
    rw [one_mul, mul_inv, EReal.coe_mul]
    ac_rfl
  rw [e1, e2]
  simp only [Finset.univ_unique, Finset.sum_singleton, zero_add]
  rw [← EReal.neg_mul, ← add_mul_real _ _ _ hi, ← sub_eq_add_neg]
  refine congrArg (· * sc) ?_
  ac_rfl

end Cert.Attn

end
-- ==== Proof.AttnPoint.lean ====
/- What one grid point of the attention's backward pass leaves in its two output blocks, element by element. -/
module

public import proofs.«01_k».proof.Proof.AttnHead
public import Idealize.ShloMosaic.Lib.Pipeline.ReadBack

@[expose] public section

set_option maxRecDepth 16384

noncomputable section

namespace Cert.Attn

open Idealize.ShloMosaic

/-- Lane `d` of head `h` among the 1024 lanes of a row. -/
def lane (h : Fin 4) (d : Fin 256) : Fin 1024 := ⟨256 * h.val + d.val, by omega⟩

/-- Head `h` of row `r` of an array of rows of 1024 lanes. -/
def row {n : ℕ} (X : (⟨2, ![n, 1024]⟩ : Shape).Idx → EReal) (h : Fin 4) (r : Fin n) (d : Fin 256) : EReal := X (ix2 r (lane h d))

/-- The queries' gradient at row `r`, head `h`, lane `l`, from one block of rows and one memory. -/
def partQ {n : ℕ} (Q G : (⟨2, ![n, 1024]⟩ : Shape).Idx → EReal) (K V : (⟨2, ![256, 1024]⟩ : Shape).Idx → EReal) (h : Fin 4) (r : Fin n)
    (l : Fin 256) : EReal :=
  ∑ a : Fin 256, dscore (row Q h r) (row G h r) (row K h) (row V h) a * row K h a l

/-- The part of a block of rows in the keys' gradient, at memory row `a`, head `h`, lane `l`. -/
def partK {n : ℕ} (Q G : (⟨2, ![n, 1024]⟩ : Shape).Idx → EReal) (K V : (⟨2, ![256, 1024]⟩ : Shape).Idx → EReal) (h : Fin 4) (a : Fin 256)
    (l : Fin 256) : EReal :=
  ∑ r : Fin n, dscore (row Q h r) (row G h r) (row K h) (row V h) a * row Q h r l

/-- The part of a block of rows in the values' gradient, at memory row `a`, head `h`, lane `l`. -/
def partV {n : ℕ} (Q G : (⟨2, ![n, 1024]⟩ : Shape).Idx → EReal) (K V : (⟨2, ![256, 1024]⟩ : Shape).Idx → EReal) (h : Fin 4) (a : Fin 256)
    (l : Fin 256) : EReal :=
  ∑ r : Fin n, soft (row Q h r) (row K h) a * row G h r l

/-- Both parts side by side: lanes 0 to 1023 the keys', lanes 1024 to 2047 the values'. -/
def part {n : ℕ} (Q G : (⟨2, ![n, 1024]⟩ : Shape).Idx → EReal) (K V : (⟨2, ![256, 1024]⟩ : Shape).Idx → EReal) (a : Fin 256)
    (z : Fin 2048) : EReal :=
  if hz : z.val < 1024 then partK Q G K V ⟨z.val / 256, by omega⟩ a ⟨z.val % 256, by omega⟩
  else partV Q G K V ⟨(z.val - 1024) / 256, by omega⟩ a ⟨(z.val - 1024) % 256, by omega⟩

variable {n : ℕ} (Q G : (⟨2, ![n, 1024]⟩ : Shape).Idx → EReal) (K V : (⟨2, ![256, 1024]⟩ : Shape).Idx → EReal)

/-- Both parts at a lane of the keys'. -/
theorem part_key (h : Fin 4) (a a' l : Fin 256) (z : Fin 2048) (ha : a'.val = a.val) (hz : z.val = 256 * h.val + l.val) :
    part Q G K V a' z = partK Q G K V h a l := by
  obtain rfl : a' = a := Fin.ext ha
  unfold part
  rw [dif_pos (by omega)]
  congr 1 <;> exact Fin.ext (by simp only; omega)

/-- Both parts at a lane of the values'. -/
theorem part_val (h : Fin 4) (a a' l : Fin 256) (z : Fin 2048) (ha : a'.val = a.val) (hz : z.val = 1024 + (256 * h.val + l.val)) :
    part Q G K V a' z = partV Q G K V h a l := by
  obtain rfl : a' = a := Fin.ext ha
  unfold part
  rw [dif_neg (by omega)]
  congr 1 <;> exact Fin.ext (by simp only; omega)

end Cert.Attn

namespace Cert.KernelIdeal.Value

open Idealize.ShloMosaic Idealize.ShloMosaic.TcCoe Idealize.SL.Sem
open Cert.KernelIdeal Cert.KernelIdeal.Gen Cert.Attn
open Idealize.ShloMosaic.Pipeline (Dat)

/-- The block a run starts from is zero. -/
theorem pay6 (x : S256x2048.Idx) : (show EReal from k0_pay6 (F := Ideal) x) = 0 := by
  pointwise! [k0_pay6]

section Heads

variable (Q G : Vec Ideal S512x1024 .bf16) (K V : Vec Ideal S256x1024 .bf16)
variable (q g : Vec Ideal S512x256 .bf16) (k v : Vec Ideal S256x256 .bf16) (a : Vec Ideal S256x256 .f32) (h : Fin 4)

/-- A head's tile of the queries' gradient, from the whole blocks. -/
theorem headQ (hq : ∀ r d, q (ix2 r d) = row Q h r d) (hg : ∀ r d, g (ix2 r d) = row G h r d)
    (hk : ∀ r d, k (ix2 r d) = row K h r d) (hv : ∀ r d, v (ix2 r d) = row V h r d) (x : S512x256.Idx) :
    k0_pay11 k (k0_pay9 q k v g) x = partQ Q G K V h (x 0) (x 1) := by
  idx_vars x
  rw [dq0]; unfold partQ
  simp only [ix2_0, ix2_1, hq, hg, hk, hv]

/-- A head's tile of the keys' gradient, from the whole blocks. -/
theorem headK (hq : ∀ r d, q (ix2 r d) = row Q h r d) (hg : ∀ r d, g (ix2 r d) = row G h r d)
    (hk : ∀ r d, k (ix2 r d) = row K h r d) (hv : ∀ r d, v (ix2 r d) = row V h r d) (x : S256x256.Idx) :
    k0_pay12 q (k0_pay9 q k v g) a x = a x + partK Q G K V h (x 0) (x 1) := by
  idx_vars x
  rw [dk0]; unfold partK
  simp only [ix2_0, ix2_1, hq, hg, hk, hv]

/-- A head's tile of the values' gradient, from the whole blocks. -/
theorem headV (hq : ∀ r d, q (ix2 r d) = row Q h r d) (hg : ∀ r d, g (ix2 r d) = row G h r d)
    (hk : ∀ r d, k (ix2 r d) = row K h r d) (x : S256x256.Idx) :
    k0_pay8 q k g a x = a x + partV Q G K V h (x 0) (x 1) := by
  idx_vars x
  rw [dv0]; unfold partV
  simp only [ix2_0, ix2_1, hq, hg, hk]

/-- A head's tile of the keys' gradient on top of zeroes. -/
theorem headKA (hq : ∀ r d, q (ix2 r d) = row Q h r d) (hg : ∀ r d, g (ix2 r d) = row G h r d)
    (hk : ∀ r d, k (ix2 r d) = row K h r d) (hv : ∀ r d, v (ix2 r d) = row V h r d) (x : S256x256.Idx) (ha : a x = 0)
    (z0 : Fin 256) (z1 : Fin 2048) (e0 : z0.val = (x 0).val) (e1 : z1.val = 256 * h.val + (x 1).val) :
    k0_pay12 q (k0_pay9 q k v g) a x = (0 : EReal) + part Q G K V z0 z1 := by
  refine (headK Q G K V q g k v a h hq hg hk hv x).trans ?_
  exact congrArg₂ (· + ·) ha (part_key Q G K V h (x 0) z0 (x 1) z1 e0 e1).symm

/-- A head's tile of the values' gradient on top of zeroes. -/
theorem headVA (hq : ∀ r d, q (ix2 r d) = row Q h r d) (hg : ∀ r d, g (ix2 r d) = row G h r d)
    (hk : ∀ r d, k (ix2 r d) = row K h r d) (x : S256x256.Idx) (ha : a x = 0)
    (z0 : Fin 256) (z1 : Fin 2048) (e0 : z0.val = (x 0).val) (e1 : z1.val = 1024 + (256 * h.val + (x 1).val)) :
    k0_pay8 q k g a x = (0 : EReal) + part Q G K V z0 z1 := by
  refine (headV Q G K V q g k a h hq hg hk x).trans ?_
  exact congrArg₂ (· + ·) ha (part_val Q G K V h (x 0) z0 (x 1) z1 e0 e1).symm

end Heads

variable (m : (ℓ : Loc nD τ sig) → Buf (Elt Ideal) ℓ)

/-- The block of the queries' gradient at a point. -/
theorem outQ (c : Dev nD) (t : Fin cfg0.N) (y : S512x1024.Idx) (h : Fin 4) (x : S512x256.Idx) (hy0 : (y 0).val = (x 0).val)
    (hy1 : (y 1).val = 256 * h.val + (x 1).val) : (outsAt0 m c t.val t.isLt).1 y
    = partQ (iblk m c 0 t) (iblk m c 3 t) (iblk m c 1 t) (iblk m c 2 t) h (x 0) (x 1) := by
  by_cases h0 : t.val % 4 = 0
  · rw [outsAt0_A m c t h0]; frame_out
    canon_tiles x' h
    · obtain rfl : h = 3 := Fin.ext (by show h.val = 3; have := (x 1).isLt; simp at this; omega)
      obtain rfl : x = x' := by idx_ext
      rw [dq3]
      refine headQ _ _ _ _ _ _ _ _ 3 ?_ ?_ ?_ ?_ x <;> (intro r d; pointwise; first | rfl | exact congrArg _ (congrArg (ix2 r) (Fin.ext (Nat.zero_add _).symm)))
    · obtain rfl : h = 2 := Fin.ext (by show h.val = 2; have := (x 1).isLt; simp at this; omega)
      obtain rfl : x = x' := by idx_ext
      rw [dq2]
      refine headQ _ _ _ _ _ _ _ _ 2 ?_ ?_ ?_ ?_ x <;> (intro r d; pointwise; first | rfl | exact congrArg _ (congrArg (ix2 r) (Fin.ext (Nat.zero_add _).symm)))
    · obtain rfl : h = 1 := Fin.ext (by show h.val = 1; have := (x 1).isLt; simp at this; omega)
      obtain rfl : x = x' := by idx_ext
      rw [dq1]
      refine headQ _ _ _ _ _ _ _ _ 1 ?_ ?_ ?_ ?_ x <;> (intro r d; pointwise; first | rfl | exact congrArg _ (congrArg (ix2 r) (Fin.ext (Nat.zero_add _).symm)))
    · obtain rfl : h = 0 := Fin.ext (by show h.val = 0; have := (x 1).isLt; simp at this; omega)
      obtain rfl : x = x' := by idx_ext
      skip
      refine headQ _ _ _ _ _ _ _ _ 0 ?_ ?_ ?_ ?_ x <;> (intro r d; pointwise; first | rfl | exact congrArg _ (congrArg (ix2 r) (Fin.ext (Nat.zero_add _).symm)))
  · rw [outsAt0_B m c t h0]; frame_out
    canon_tiles x' h
    · obtain rfl : h = 3 := Fin.ext (by show h.val = 3; have := (x 1).isLt; simp at this; omega)
      obtain rfl : x = x' := by idx_ext
      rw [dq3]
      refine headQ _ _ _ _ _ _ _ _ 3 ?_ ?_ ?_ ?_ x <;> (intro r d; pointwise; first | rfl | exact congrArg _ (congrArg (ix2 r) (Fin.ext (Nat.zero_add _).symm)))
    · obtain rfl : h = 2 := Fin.ext (by show h.val = 2; have := (x 1).isLt; simp at this; omega)
      obtain rfl : x = x' := by idx_ext
      rw [dq2]
      refine headQ _ _ _ _ _ _ _ _ 2 ?_ ?_ ?_ ?_ x <;> (intro r d; pointwise; first | rfl | exact congrArg _ (congrArg (ix2 r) (Fin.ext (Nat.zero_add _).symm)))
    · obtain rfl : h = 1 := Fin.ext (by show h.val = 1; have := (x 1).isLt; simp at this; omega)
      obtain rfl : x = x' := by idx_ext
      rw [dq1]
      refine headQ _ _ _ _ _ _ _ _ 1 ?_ ?_ ?_ ?_ x <;> (intro r d; pointwise; first | rfl | exact congrArg _ (congrArg (ix2 r) (Fin.ext (Nat.zero_add _).symm)))
    · obtain rfl : h = 0 := Fin.ext (by show h.val = 0; have := (x 1).isLt; simp at this; omega)
      obtain rfl : x = x' := by idx_ext
      skip
      refine headQ _ _ _ _ _ _ _ _ 0 ?_ ?_ ?_ ?_ x <;> (intro r d; pointwise; first | rfl | exact congrArg _ (congrArg (ix2 r) (Fin.ext (Nat.zero_add _).symm)))

/-- The block of the memory's gradients after a point that adds to what the point before left. -/
theorem outKV_B (c : Dev nD) (t : Fin cfg0.N) (y : S256x2048.Idx) (h0 : ¬ t.val % 4 = 0) : (outsAt0 m c t.val t.isLt).2 y
    = (outsAt0 m c (t.val - 1) (Nat.lt_of_le_of_lt (Nat.sub_le _ _) t.isLt)).2 y
      + part (iblk m c 0 t) (iblk m c 3 t) (iblk m c 1 t) (iblk m c 2 t) (y 0) (y 1) := by
  rw [outsAt0_B m c t h0]; frame_out
  generalize (outsAt0 m c (t.val - 1) (Nat.lt_of_le_of_lt (Nat.sub_le _ _) t.isLt)).2 = P
  canon_tiles x h
  · rw [part_key _ _ _ _ 3 (x 0) (y 0) (x 1) (y 1) h0 (by show (y 1).val = 256 * 3 + (x 1).val; omega)]
    rw [dk3]; refine (headK (iblk m c 0 t) (iblk m c 3 t) (iblk m c 1 t) (iblk m c 2 t) _ _ _ _ _ 3 ?_ ?_ ?_ ?_ x).trans ?_
    iterate 4 (intro r d; pointwise; first | rfl | exact congrArg _ (congrArg (ix2 r) (Fin.ext (Nat.zero_add _).symm)))
    refine congrArg (· + _) ?_; pointwise; exact congrArg P (by idx_ext)
  · rw [part_val _ _ _ _ 3 (x 0) (y 0) (x 1) (y 1) h0 (by show (y 1).val = 1024 + (256 * 3 + (x 1).val); omega)]
    rw [dv3]; refine (headV (iblk m c 0 t) (iblk m c 3 t) (iblk m c 1 t) (iblk m c 2 t) _ _ _ _ 3 ?_ ?_ ?_ x).trans ?_
    iterate 3 (intro r d; pointwise; first | rfl | exact congrArg _ (congrArg (ix2 r) (Fin.ext (Nat.zero_add _).symm)))
    refine congrArg (· + _) ?_; pointwise; exact congrArg P (by idx_ext)
  · rw [part_key _ _ _ _ 2 (x 0) (y 0) (x 1) (y 1) h0 (by show (y 1).val = 256 * 2 + (x 1).val; omega)]
    rw [dk2]; refine (headK (iblk m c 0 t) (iblk m c 3 t) (iblk m c 1 t) (iblk m c 2 t) _ _ _ _ _ 2 ?_ ?_ ?_ ?_ x).trans ?_
    iterate 4 (intro r d; pointwise; first | rfl | exact congrArg _ (congrArg (ix2 r) (Fin.ext (Nat.zero_add _).symm)))
    refine congrArg (· + _) ?_; pointwise; exact congrArg P (by idx_ext)
  · rw [part_val _ _ _ _ 2 (x 0) (y 0) (x 1) (y 1) h0 (by show (y 1).val = 1024 + (256 * 2 + (x 1).val); omega)]
    rw [dv2]; refine (headV (iblk m c 0 t) (iblk m c 3 t) (iblk m c 1 t) (iblk m c 2 t) _ _ _ _ 2 ?_ ?_ ?_ x).trans ?_
    iterate 3 (intro r d; pointwise; first | rfl | exact congrArg _ (congrArg (ix2 r) (Fin.ext (Nat.zero_add _).symm)))
    refine congrArg (· + _) ?_; pointwise; exact congrArg P (by idx_ext)
  · rw [part_key _ _ _ _ 1 (x 0) (y 0) (x 1) (y 1) h0 (by show (y 1).val = 256 * 1 + (x 1).val; omega)]
    rw [dk1]; refine (headK (iblk m c 0 t) (iblk m c 3 t) (iblk m c 1 t) (iblk m c 2 t) _ _ _ _ _ 1 ?_ ?_ ?_ ?_ x).trans ?_
    iterate 4 (intro r d; pointwise; first | rfl | exact congrArg _ (congrArg (ix2 r) (Fin.ext (Nat.zero_add _).symm)))
    refine congrArg (· + _) ?_; pointwise; exact congrArg P (by idx_ext)
  · rw [part_val _ _ _ _ 1 (x 0) (y 0) (x 1) (y 1) h0 (by show (y 1).val = 1024 + (256 * 1 + (x 1).val); omega)]
    rw [dv1]; refine (headV (iblk m c 0 t) (iblk m c 3 t) (iblk m c 1 t) (iblk m c 2 t) _ _ _ _ 1 ?_ ?_ ?_ x).trans ?_
    iterate 3 (intro r d; pointwise; first | rfl | exact congrArg _ (congrArg (ix2 r) (Fin.ext (Nat.zero_add _).symm)))
    refine congrArg (· + _) ?_; pointwise; exact congrArg P (by idx_ext)
  · rw [part_key _ _ _ _ 0 (x 0) (y 0) (x 1) (y 1) h0 (by show (y 1).val = 256 * 0 + (x 1).val; omega)]
    refine (headK (iblk m c 0 t) (iblk m c 3 t) (iblk m c 1 t) (iblk m c 2 t) _ _ _ _ _ 0 ?_ ?_ ?_ ?_ x).trans ?_
    iterate 4 (intro r d; pointwise; first | rfl | exact congrArg _ (congrArg (ix2 r) (Fin.ext (Nat.zero_add _).symm)))
    refine congrArg (· + _) ?_; pointwise; exact congrArg P (by idx_ext)
  · rw [part_val _ _ _ _ 0 (x 0) (y 0) (x 1) (y 1) h0 (by show (y 1).val = 1024 + (256 * 0 + (x 1).val); omega)]
    refine (headV (iblk m c 0 t) (iblk m c 3 t) (iblk m c 1 t) (iblk m c 2 t) _ _ _ _ 0 ?_ ?_ ?_ x).trans ?_
    iterate 3 (intro r d; pointwise; first | rfl | exact congrArg _ (congrArg (ix2 r) (Fin.ext (Nat.zero_add _).symm)))
    refine congrArg (· + _) ?_; pointwise; exact congrArg P (by idx_ext)

/-- The block of the memory's gradients after the first point of a run. -/
theorem outKV_A (c : Dev nD) (t : Fin cfg0.N) (y : S256x2048.Idx) (h0 : t.val % 4 = 0) : (outsAt0 m c t.val t.isLt).2 y
    = 0 + part (iblk m c 0 t) (iblk m c 3 t) (iblk m c 1 t) (iblk m c 2 t) (y 0) (y 1) := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y => 0 + part (iblk m c 0 t) (iblk m c 3 t) (iblk m c 1 t) (iblk m c 2 t) (y 0) (y 1)) [_]
    [_, _, _, _, _, _, _, _] ⟨?_, ?_, ?_, ?_, ?_, ?_, ?_, ?_, trivial⟩ y ?_
  · intro (x : S256x256.Idx); dsimp only; rw [dk3]; refine headKA _ _ _ _ _ _ _ _ _ 3 ?_ ?_ ?_ ?_ x ?_ _ _ ?_ ?_
    iterate 4 (intro r d; pointwise; rfl)
    · pointwise; exact pay6 _
    · show 0 + 1 * (x 0).val = (x 0).val; omega
    · show 768 + 1 * (x 1).val = 256 * 3 + (x 1).val; omega
  · intro (x : S256x256.Idx); dsimp only; rw [dv3]; refine headVA _ _ _ _ _ _ _ _ 3 ?_ ?_ ?_ x ?_ _ _ ?_ ?_
    iterate 3 (intro r d; pointwise; rfl)
    · pointwise; exact pay6 _
    · show 0 + 1 * (x 0).val = (x 0).val; omega
    · show 1792 + 1 * (x 1).val = 1024 + (256 * 3 + (x 1).val); omega
  · intro (x : S256x256.Idx); dsimp only; rw [dk2]; refine headKA _ _ _ _ _ _ _ _ _ 2 ?_ ?_ ?_ ?_ x ?_ _ _ ?_ ?_
    iterate 4 (intro r d; pointwise; rfl)
    · pointwise; exact pay6 _
    · show 0 + 1 * (x 0).val = (x 0).val; omega
    · show 512 + 1 * (x 1).val = 256 * 2 + (x 1).val; omega
  · intro (x : S256x256.Idx); dsimp only; rw [dv2]; refine headVA _ _ _ _ _ _ _ _ 2 ?_ ?_ ?_ x ?_ _ _ ?_ ?_
    iterate 3 (intro r d; pointwise; rfl)
    · pointwise; exact pay6 _
    · show 0 + 1 * (x 0).val = (x 0).val; omega
    · show 1536 + 1 * (x 1).val = 1024 + (256 * 2 + (x 1).val); omega
  · intro (x : S256x256.Idx); dsimp only; rw [dk1]; refine headKA _ _ _ _ _ _ _ _ _ 1 ?_ ?_ ?_ ?_ x ?_ _ _ ?_ ?_
    iterate 4 (intro r d; pointwise; rfl)
    · pointwise; exact pay6 _
    · show 0 + 1 * (x 0).val = (x 0).val; omega
    · show 256 + 1 * (x 1).val = 256 * 1 + (x 1).val; omega
  · intro (x : S256x256.Idx); dsimp only; rw [dv1]; refine headVA _ _ _ _ _ _ _ _ 1 ?_ ?_ ?_ x ?_ _ _ ?_ ?_
    iterate 3 (intro r d; pointwise; rfl)
    · pointwise; exact pay6 _
    · show 0 + 1 * (x 0).val = (x 0).val; omega
    · show 1280 + 1 * (x 1).val = 1024 + (256 * 1 + (x 1).val); omega
  · intro (x : S256x256.Idx); dsimp only; refine headKA _ _ _ _ _ _ _ _ _ 0 ?_ ?_ ?_ ?_ x ?_ _ _ ?_ ?_
    iterate 4 (intro r d; pointwise; first | rfl | exact congrArg _ (congrArg (ix2 r) (Fin.ext (Nat.zero_add _).symm)))
    · pointwise; exact pay6 _
    · show 0 + 1 * (x 0).val = (x 0).val; omega
    · show 0 + 1 * (x 1).val = 256 * 0 + (x 1).val; omega
  · intro (x : S256x256.Idx); dsimp only; refine headVA _ _ _ _ _ _ _ _ 0 ?_ ?_ ?_ x ?_ _ _ ?_ ?_
    iterate 3 (intro r d; pointwise; first | rfl | exact congrArg _ (congrArg (ix2 r) (Fin.ext (Nat.zero_add _).symm)))
    · pointwise; exact pay6 _
    · show 0 + 1 * (x 0).val = (x 0).val; omega
    · show 1024 + 1 * (x 1).val = 1024 + (256 * 0 + (x 1).val); omega
  exact View.cover_of_tiledL _ ![256, 256] (by rfl) y

end Cert.KernelIdeal.Value

end
-- ==== Proof.AttnArr.lean ====
/- The two result arrays of the attention's backward pass after the whole grid, element by element. -/
module

public import proofs.«01_k».proof.Proof.AttnPoint

@[expose] public section

set_option maxRecDepth 16384

noncomputable section

namespace Cert.Attn

open Idealize.ShloMosaic

/-- The keys of batch element `b`: its 256 memory rows, the first 1024 lanes. -/
def memK (KV : (⟨2, ![1024, 2048]⟩ : Shape).Idx → EReal) (b : Fin 4) : (⟨2, ![256, 1024]⟩ : Shape).Idx → EReal := fun i =>
  KV (ix2 ⟨256 * b.val + (i 0).val, by have := (i 0).isLt; simp at this; omega⟩ ⟨(i 1).val, by have := (i 1).isLt; simp at this; omega⟩)

/-- The values of batch element `b`: its 256 memory rows, the last 1024 lanes. -/
def memV (KV : (⟨2, ![1024, 2048]⟩ : Shape).Idx → EReal) (b : Fin 4) : (⟨2, ![256, 1024]⟩ : Shape).Idx → EReal := fun i =>
  KV (ix2 ⟨256 * b.val + (i 0).val, by have := (i 0).isLt; simp at this; omega⟩
    ⟨1024 + (i 1).val, by have := (i 1).isLt; simp at this; omega⟩)

/-- The 2048 rows of batch element `b`. -/
def rows (X : (⟨2, ![8192, 1024]⟩ : Shape).Idx → EReal) (b : Fin 4) : (⟨2, ![2048, 1024]⟩ : Shape).Idx → EReal := fun i =>
  X (ix2 ⟨2048 * b.val + (i 0).val, by have := (i 0).isLt; simp at this; omega⟩ (i 1))

/-- The queries' gradient. -/
def dQ (Q G : (⟨2, ![8192, 1024]⟩ : Shape).Idx → EReal) (KV : (⟨2, ![1024, 2048]⟩ : Shape).Idx → EReal)
    (z0 : Fin 8192) (z1 : Fin 1024) : EReal :=
  partQ Q G (memK KV ⟨z0.val / 2048, by omega⟩) (memV KV ⟨z0.val / 2048, by omega⟩) ⟨z1.val / 256, by omega⟩ z0
    ⟨z1.val % 256, by omega⟩

/-- The memory's gradient. -/
def dKV (Q G : (⟨2, ![8192, 1024]⟩ : Shape).Idx → EReal) (KV : (⟨2, ![1024, 2048]⟩ : Shape).Idx → EReal)
    (z0 : Fin 1024) (z1 : Fin 2048) : EReal :=
  part (rows Q ⟨z0.val / 256, by omega⟩) (rows G ⟨z0.val / 256, by omega⟩) (memK KV ⟨z0.val / 256, by omega⟩)
    (memV KV ⟨z0.val / 256, by omega⟩) ⟨z0.val % 256, by omega⟩ z1

/-- Four blocks of 512 rows make the 2048 rows of a batch element. -/
theorem part_sum (Q G : (⟨2, ![2048, 1024]⟩ : Shape).Idx → EReal) (q g : Fin 4 → (⟨2, ![512, 1024]⟩ : Shape).Idx → EReal)
    (K V : (⟨2, ![256, 1024]⟩ : Shape).Idx → EReal)
    (hq : ∀ s (r : Fin 512) l, q s (ix2 r l) = Q (ix2 ⟨s.val * 512 + r.val, by omega⟩ l))
    (hg : ∀ s (r : Fin 512) l, g s (ix2 r l) = G (ix2 ⟨s.val * 512 + r.val, by omega⟩ l)) (a : Fin 256) (z : Fin 2048) :
    ∑ s : Fin 4, part (q s) (g s) K V a z = part Q G K V a z := by
  have rq : ∀ s h (r : Fin 512), row (q s) h r = row Q h ⟨s.val * 512 + r.val, by omega⟩ := fun s h r => funext fun d => hq s r _
  have rg : ∀ s h (r : Fin 512), row (g s) h r = row G h ⟨s.val * 512 + r.val, by omega⟩ := fun s h r => funext fun d => hg s r _
  unfold part
  split_ifs
  · unfold partK
    refine Fin.sum_mul_add_congr fun s k hl => ?_
    rw [rq, rg]
  · unfold partV
    refine Fin.sum_mul_add_congr fun s k hl => ?_
    rw [rq, rg]

end Cert.Attn

namespace Cert.KernelIdeal.Value

open Idealize.ShloMosaic Idealize.ShloMosaic.TcCoe Idealize.SL.Sem
open Cert.KernelIdeal Cert.KernelIdeal.Gen Cert.Attn
open Idealize.ShloMosaic.Pipeline (Dat)

variable (m : (ℓ : Loc nD τ sig) → Buf (Elt Ideal) ℓ)

/-- The block indices of the six windows at a grid point. -/
theorem idx : ∀ t : Fin cfg0.N, win0_0.index t = ![t.val, 0] ∧ win0_1.index t = ![t.val / 4, 0] ∧ win0_2.index t = ![t.val / 4, 1] ∧
    win0_3.index t = ![t.val, 0] ∧ win0_4.index t = ![t.val, 0] ∧ win0_5.index t = ![t.val / 4, 0] :=
  (by decide +kernel : ∀ t : Fin grid0.N, _)

/-- There are sixteen grid points. -/
theorem lt16 (t : Fin cfg0.N) : t.val < 16 := lt_of_lt_of_eq t.isLt (show cfg0.N = 16 from N_0)

/-- The block of query rows at a point. -/
theorem blk0 (c : Dev nD) (t : Fin cfg0.N) (r : Fin 512) (l : Fin 1024) : iblk m c 0 t (ix2 r l)
    = m ((c : Thread nD τ).loc main_arg0) (ix2 ⟨512 * t.val + r.val, by have := lt16 t; omega⟩ l) := by
  blk_ext [iblk, V, idx t]

/-- The block of gradient rows at a point. -/
theorem blk3 (c : Dev nD) (t : Fin cfg0.N) (r : Fin 512) (l : Fin 1024) : iblk m c 3 t (ix2 r l)
    = m ((c : Thread nD τ).loc main_arg2) (ix2 ⟨512 * t.val + r.val, by have := lt16 t; omega⟩ l) := by
  blk_ext [iblk, V, idx t]

/-- The block of keys at a point. -/
theorem blk1 (c : Dev nD) (t : Fin cfg0.N) : iblk m c 1 t
    = memK (m ((c : Thread nD τ).loc main_arg1)) ⟨t.val / 4, by have := lt16 t; omega⟩ := by
  funext i
  unfold memK
  blk_ext [iblk, V, idx t]

/-- The block of values at a point. -/
theorem blk2 (c : Dev nD) (t : Fin cfg0.N) : iblk m c 2 t
    = memV (m ((c : Thread nD τ).loc main_arg1)) ⟨t.val / 4, by have := lt16 t; omega⟩ := by
  funext i
  unfold memV
  blk_ext [iblk, V, idx t]

/-- What a point leaves in its block of the queries' gradient. -/
theorem pointQ (c : Dev nD) (t : Fin cfg0.N) (y : S512x1024.Idx) (z0 : Fin 8192) (z1 : Fin 1024) (e0 : z0.val = 512 * t.val + (y 0).val)
    (e1 : z1.val = (y 1).val) : (outsAt0 m c t.val t.isLt).1 y
    = dQ (m ((c : Thread nD τ).loc main_arg0)) (m ((c : Thread nD τ).loc main_arg2)) (m ((c : Thread nD τ).loc main_arg1)) z0 z1 := by
  have ht := lt16 t
  idx_vars y
  have hy : y0.val < 512 := y0.isLt
  have e0_ : z0.val = 512 * t.val + y0.val := e0
  obtain rfl : z1 = y1 := Fin.ext e1
  have hz : z0 = ⟨512 * t.val + y0.val, by omega⟩ := Fin.ext e0_
  have hb : (⟨t.val / 4, by omega⟩ : Fin 4) = ⟨z0.val / 2048, by omega⟩ := Fin.ext (by show t.val / 4 = z0.val / 2048; omega)
  have rq : ∀ h, row (iblk m c 0 t) h y0 = row (m ((c : Thread nD τ).loc main_arg0)) h z0 := fun h => by
    rw [hz]; exact funext fun d => blk0 m c t _ _
  have rg : ∀ h, row (iblk m c 3 t) h y0 = row (m ((c : Thread nD τ).loc main_arg2)) h z0 := fun h => by
    rw [hz]; exact funext fun d => blk3 m c t _ _
  refine (outQ m c t _ ⟨z1.val / 256, by omega⟩ (ix2 y0 ⟨z1.val % 256, by omega⟩) rfl ?_).trans ?_
  · show z1.val = 256 * (z1.val / 256) + z1.val % 256; omega
  · unfold dQ
    rw [← hb, ← blk1 m c t, ← blk2 m c t]
    unfold partQ
    rw [← rq, ← rg]
    rfl

/-- What the last point of a run of four leaves in the memory's gradient. -/
theorem pointKV (c : Dev nD) (t : Fin cfg0.N) (hf : t.val % 4 = 3) (y : S256x2048.Idx) (z0 : Fin 1024) (z1 : Fin 2048)
    (e0 : z0.val = 256 * (t.val / 4) + (y 0).val) (e1 : z1.val = (y 1).val) : (outsAt0 m c t.val t.isLt).2 y
    = dKV (m ((c : Thread nD τ).loc main_arg0)) (m ((c : Thread nD τ).loc main_arg2)) (m ((c : Thread nD τ).loc main_arg1)) z0 z1 := by
  have ht := lt16 t
  rw [Pipeline.eq_sum_fin_of_reset_step_apply_of_flush (fun n h => (outsAt0 m c n h).2) 4 (fun _ => (0 : EReal))
    (fun t i => part (iblk m c 0 t) (iblk m c 3 t) (iblk m c 1 t) (iblk m c 2 t) (i 0) (i 1))
    (fun t h i => outKV_A m c t i h) (fun t h i => outKV_B m c t i h) t hf y]
  idx_vars y
  have hy : y0.val < 256 := y0.isLt
  have e0_ : z0.val = 256 * (t.val / 4) + y0.val := e0
  obtain rfl : z1 = y1 := Fin.ext e1
  rw [zero_add]
  unfold dKV
  have hb : (⟨z0.val / 256, by omega⟩ : Fin 4) = ⟨t.val / 4, by omega⟩ := Fin.ext (by show z0.val / 256 = t.val / 4; omega)
  have ha : (⟨z0.val % 256, by omega⟩ : Fin 256) = y0 := Fin.ext (by show z0.val % 256 = y0.val; omega)
  rw [hb, ha]
  have hp : ∀ s : Fin 4, 4 * (t.val / 4) + s.val < cfg0.N := fun s => Pipeline.run_point_lt_of_flush t hf s
  have ek : ∀ s : Fin 4, iblk m c 1 ⟨_, hp s⟩ = memK (m ((c : Thread nD τ).loc main_arg1)) ⟨t.val / 4, by omega⟩ := fun s =>
    (blk1 m c ⟨_, hp s⟩).trans (congrArg _ (Fin.ext (by show (4 * (t.val / 4) + s.val) / 4 = t.val / 4; omega)))
  have ev : ∀ s : Fin 4, iblk m c 2 ⟨_, hp s⟩ = memV (m ((c : Thread nD τ).loc main_arg1)) ⟨t.val / 4, by omega⟩ := fun s =>
    (blk2 m c ⟨_, hp s⟩).trans (congrArg _ (Fin.ext (by show (4 * (t.val / 4) + s.val) / 4 = t.val / 4; omega)))
  refine (Finset.sum_congr rfl fun s _ => ?_).trans (part_sum
    (rows (m ((c : Thread nD τ).loc main_arg0)) ⟨t.val / 4, by omega⟩) (rows (m ((c : Thread nD τ).loc main_arg2)) ⟨t.val / 4, by omega⟩)
    (fun s => iblk m c 0 ⟨_, hp s⟩) (fun s => iblk m c 3 ⟨_, hp s⟩) (memK (m ((c : Thread nD τ).loc main_arg1)) ⟨t.val / 4, by omega⟩)
    (memV (m ((c : Thread nD τ).loc main_arg1)) ⟨t.val / 4, by omega⟩) ?_ ?_ y0 z1)
  · rw [← ek s, ← ev s]
  · intro s r l
    refine (blk0 m c ⟨_, hp s⟩ r l).trans (congrArg _ (congrArg (fun z => ix2 z l) (Fin.ext ?_)))
    show 512 * (4 * (t.val / 4) + s.val) + r.val = 2048 * (t.val / 4) + (s.val * 512 + r.val)
    omega
  · intro s r l
    refine (blk3 m c ⟨_, hp s⟩ r l).trans (congrArg _ (congrArg (fun z => ix2 z l) (Fin.ext ?_)))
    show 512 * (4 * (t.val / 4) + s.val) + r.val = 2048 * (t.val / 4) + (s.val * 512 + r.val)
    omega

/-- The queries' gradient after the run. -/
theorem finalQ (c : Dev nD) : (dats m 0 c).arrAt 4 cfg0.N = fun i =>
    dQ (m ((c : Thread nD τ).loc main_arg0)) (m ((c : Thread nD τ).loc main_arg2)) (m ((c : Thread nD τ).loc main_arg1)) (i 0) (i 1) := by
  refine (dats m 0 c).arrAt_eq_of_covers 4 _ (by decide +kernel) fun t hf y => ?_
  blk_simp
  rw [after0_4]
  exact pointQ m c t y _ _ (by blk_simp [idx t]; omega) (by blk_simp [idx t])

/-- The memory's gradient after the run. -/
theorem finalKV (c : Dev nD) : (dats m 0 c).arrAt 5 cfg0.N = fun i =>
    dKV (m ((c : Thread nD τ).loc main_arg0)) (m ((c : Thread nD τ).loc main_arg2)) (m ((c : Thread nD τ).loc main_arg1)) (i 0) (i 1) := by
  refine (dats m 0 c).arrAt_eq_of_covers 5 _ (by decide +kernel) fun t hf y => ?_
  blk_simp
  rw [after0_5]
  exact pointKV m c t ((flush0_5 t).mp hf) y _ _ (by blk_simp [idx t]; omega) (by blk_simp [idx t])

end Cert.KernelIdeal.Value

end
-- ==== Proof.AttnRef.lean ====
/- The reference's gradient of the attention, one stage at a time, read at an index. -/
module

public import proofs.«01_k».proof.Proof.AttnAlg
public import proofs.«01_k».proof.Proof.AttnArr
public import proofs.«01_k».proof.Proof.Gen.ReferenceIdeal.Read

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read Cert.Attn

variable (X G : (⟨S8192x1024, .bf16⟩ : BufTy).Contents (Elt Ideal)) (KV : (⟨S1024x2048, .bf16⟩ : BufTy).Contents (Elt Ideal))
variable (b : Fin 4) (h : Fin 4) (s : Fin 2048) (m d : Fin 256)

/-- A head's lanes of row `s` of batch element `b`. -/
abbrev rw_ (X : (⟨2, ![8192, 1024]⟩ : Shape).Idx → EReal) (b h : Fin 4) (s : Fin 2048) : Fin 256 → EReal := row X h ⟨2048 * b.val + s.val, by omega⟩

/-- The queries by batch element, row and head. -/
theorem v2 : val_main_v2 (F := Ideal) X (ix4 b s h d) = rw_ X b h s d := by
  rw [val_main_v2_apply, val_main_v0_apply]
  refine congrArg X (?_ : _ = ix2 _ _)
  unfold lane
  idx_ext

/-- The output's gradient by batch element, head and row. -/
theorem v46 : val_main_v46 (F := Ideal) G (ix4 b h d s) = rw_ G b h s d := by
  rw [val_main_v46_apply, val_main_v45_apply, val_main_v44_apply, val_main_v43_apply]
  refine congrArg G (?_ : _ = ix2 _ _)
  unfold lane
  idx_ext

/-- The keys by batch element, memory row and head. -/
theorem v6 : val_main_v6 (F := Ideal) KV (ix4 b m h d) = row (memK KV b) h m d := by
  rw [val_main_v6_apply, val_main_v4_apply, val_main_v3_apply, val_main_v1_apply]
  refine congrArg KV (?_ : _ = ix2 _ _)
  unfold lane
  idx_ext

/-- The values by batch element, memory row and head. -/
theorem v7 : val_main_v7 (F := Ideal) KV (ix4 b m h d) = row (memV KV b) h m d := by
  rw [val_main_v7_apply, val_main_v5_apply, val_main_v3_apply, val_main_v1_apply]
  refine congrArg KV (?_ : _ = ix2 _ _)
  unfold lane
  idx_ext

/-- The scores. -/
theorem v10 : val_main_v10 (F := Ideal) X KV (ix4 b h s m) = score (rw_ X b h s) (row (memK KV b) h) m := by
  unfold score
  pointwise [val_main_v10, val_main_v8, val_main_v9, val_main_cst, v2, v6]

/-- The largest score of a row. -/
theorem v11 : val_main_v11 (F := Ideal) X KV (ix3 b h s) = top (rw_ X b h s) (row (memK KV b) h) := by
  unfold top
  pointwise [val_main_v11, val_main_cst_0, v10]

/-- … which the comparison with minus infinity leaves as it is. -/
theorem v18 : val_main_v18 (F := Ideal) X KV (ix3 b h s) = top (rw_ X b h s) (row (memK KV b) h) := by
  rw [val_main_v18_apply, val_main_v17_apply, val_main_cst_2_apply, v11]
  generalize top (rw_ X b h s) (row (memK KV b) h) = t
  refine (congrArg (fun z : EReal => max z t) ofBits_ninf).trans ?_
  exact max_eq_right bot_le

/-- The exponentials. -/
theorem v31 : val_main_v31 (F := Ideal) X KV (ix4 b h s m) = ex (rw_ X b h s) (row (memK KV b) h) m := by
  unfold ex
  pointwise [val_main_v31, val_main_v30, val_main_v29, val_main_v28, v10, v18]

/-- Their sum over the row. -/
theorem v33 (z : Fin 1) : val_main_v33 (F := Ideal) X KV (ix4 b h s z) = ∑ n, ex (rw_ X b h s) (row (memK KV b) h) n := by
  pointwise [val_main_v33, val_main_v32, val_main_cst_8, v31]

/-- The softmax. -/
theorem v35 : val_main_v35 (F := Ideal) X KV (ix4 b h s m) = soft (rw_ X b h s) (row (memK KV b) h) m := by
  unfold soft
  pointwise [val_main_v35, val_main_v34, v31, v33]

/-- The gradient of the softmax. -/
theorem v47 : val_main_v47 (F := Ideal) KV G (ix4 b h s m) = dsoft (rw_ G b h s) (row (memV KV b) h) m := by
  unfold dsoft
  pointwise [val_main_v47, v46, v7]

/-- The inverse of the square of the exponentials' sum. -/
theorem v50 : val_main_v50 (F := Ideal) X KV (ix4 b h s m) = Ideal.div 1 ((∑ n, ex (rw_ X b h s) (row (memK KV b) h) n) * ∑ n, ex (rw_ X b h s) (row (memK KV b) h) n) := by
  rw [← Ideal.ofBits_one_f32]
  pointwise [val_main_v50, val_main_v38, val_main_v37, val_main_v36, val_main_cst_9, v33]

/-- The gradient of the exponentials' sum. -/
theorem v58 : val_main_v58 (F := Ideal) X KV G (ix3 b h s)
    = 0 + ∑ _z : Fin 1, -(0 + ∑ n, dsoft (rw_ G b h s) (row (memV KV b) h) n
        * Ideal.div 1 ((∑ n, ex (rw_ X b h s) (row (memK KV b) h) n) * ∑ n, ex (rw_ X b h s) (row (memK KV b) h) n)
        * ex (rw_ X b h s) (row (memK KV b) h) n) := by
  pointwise [val_main_v58, val_main_v55, val_main_v54, val_main_v53, val_main_v52, val_main_v51, val_main_cst_10, val_main_cst_11, v50, v47, v31]

/-- The gradient of the scores. -/
theorem v63 : val_main_v63 (F := Ideal) X KV G (ix4 b h s m)
    = dscoreD (rw_ X b h s) (rw_ G b h s) (row (memK KV b) h) (row (memV KV b) h) m := by
  unfold dscoreD
  pointwise [val_main_v63, val_main_v62, val_main_cst_12, val_main_v61, val_main_v60, val_main_v59, val_main_v57, val_main_v56, v58, v33, v47, v31]

/-- The queries' gradient by batch element, row and head. -/
theorem v67 : val_main_v67 (F := Ideal) X KV G (ix4 b s h d)
    = ∑ m, dscoreD (rw_ X b h s) (rw_ G b h s) (row (memK KV b) h) (row (memV KV b) h) m * row (memK KV b) h m d := by
  pointwise [val_main_v67, val_main_v66, v63, v6]

/-- The keys' gradient by batch element, memory row and head. -/
theorem v65 : val_main_v65 (F := Ideal) X KV G (ix4 b m h d)
    = ∑ s, dscoreD (rw_ X b h s) (rw_ G b h s) (row (memK KV b) h) (row (memV KV b) h) m * rw_ X b h s d := by
  pointwise [val_main_v65, val_main_v64, v63, v2]

/-- The values' gradient by batch element, memory row and head. -/
theorem v49 : val_main_v49 (F := Ideal) X KV G (ix4 b m h d)
    = ∑ s, soft (rw_ X b h s) (row (memK KV b) h) m * rw_ G b h s d := by
  have h0 : val_main_v49 (F := Ideal) X KV G (ix4 b m h d) = ∑ s, rw_ G b h s d * soft (rw_ X b h s) (row (memK KV b) h) m := by
    pointwise [val_main_v49, val_main_v48, v46, v35]
  exact h0.trans (Finset.sum_congr rfl fun s _ => mul_comm _ _)

/-- Every query is finite, and every key. -/
def Fin_ (X : (⟨2, ![8192, 1024]⟩ : Shape).Idx → EReal) (KV : (⟨2, ![1024, 2048]⟩ : Shape).Idx → EReal) : Prop :=
  (∀ i, X i ≠ ⊤ ∧ X i ≠ ⊥) ∧ ∀ (a : Fin 1024) (l : Fin 1024), KV (ix2 a ⟨l.val, by omega⟩) ≠ ⊤ ∧ KV (ix2 a ⟨l.val, by omega⟩) ≠ ⊥

/-- Where the queries and the keys are finite, the reference's gradient of the scores is the kernel's. -/
theorem score_eq (hf : Fin_ X KV) : dscoreD (rw_ X b h s) (rw_ G b h s) (row (memK KV b) h) (row (memV KV b) h) m
    = dscore (rw_ X b h s) (rw_ G b h s) (row (memK KV b) h) (row (memV KV b) h) m :=
  (dscore_eq _ _ _ _ (fun d => hf.1 _) (fun m d => hf.2 _ _) m).symm

/-- The reference's gradient of the queries is the kernel's. -/
theorem v73 (hf : Fin_ X KV) : val_main_v73 (F := Ideal) X KV G = fun i => dQ X G KV (i 0) (i 1) := by
  funext i
  idx_vars i
  rw [val_main_v73_apply, val_main_v72_apply]
  have e : idx_main_v72 (ix2 i0 i1) = ix4 ⟨i0.val / 2048, by omega⟩ ⟨i0.val % 2048, by omega⟩ ⟨i1.val / 256, by omega⟩ ⟨i1.val % 256, by omega⟩ := by
    idx_ext
  rw [e, v67]
  unfold dQ partQ
  refine Finset.sum_congr rfl fun m _ => congrArg (· * _) ?_
  rw [score_eq X G KV _ _ _ _ hf]
  have e0 : (⟨2048 * (i0.val / 2048) + i0.val % 2048, by omega⟩ : Fin 8192) = i0 := Fin.ext (Nat.div_add_mod _ _)
  show dscore (row X _ ⟨2048 * (i0.val / 2048) + i0.val % 2048, _⟩) (row G _ ⟨2048 * (i0.val / 2048) + i0.val % 2048, _⟩) _ _ _ = _
  rw [e0]

/-- The joined gradient of keys and values, at a lane of the keys. -/
theorem v70_key (l : Fin 1024) : val_main_v70 (F := Ideal) X KV G (ix3 b m ⟨l.val, by omega⟩) = val_main_v69 (F := Ideal) X KV G (ix3 b m l) := by
  pointwise [val_main_v70]

/-- … and at a lane of the values. -/
theorem v70_val (l : Fin 1024) : val_main_v70 (F := Ideal) X KV G (ix3 b m ⟨1024 + l.val, by omega⟩) = val_main_v68 (F := Ideal) X KV G (ix3 b m l) := by
  pointwise [val_main_v70]

/-- The reference's gradient of keys and values is the kernel's. -/
theorem v71 (hf : Fin_ X KV) : val_main_v71 (F := Ideal) X KV G = fun i => dKV X G KV (i 0) (i 1) := by
  funext i
  idx_vars i
  have h1 : i1.val < 2048 := i1.isLt
  rw [val_main_v71_apply]
  unfold dKV part
  split_ifs with hz
  · have e : idx_main_v71 (ix2 i0 i1) = ix3 ⟨i0.val / 256, by omega⟩ ⟨i0.val % 256, by omega⟩ ⟨(⟨i1.val, hz⟩ : Fin 1024).val, by omega⟩ := by
      idx_ext
    rw [e, v70_key, val_main_v69_apply]
    have e' : idx_main_v69 (ix3 ⟨i0.val / 256, by omega⟩ ⟨i0.val % 256, by omega⟩ ⟨i1.val, hz⟩)
        = ix4 ⟨i0.val / 256, by omega⟩ ⟨i0.val % 256, by omega⟩ ⟨i1.val / 256, by omega⟩ ⟨i1.val % 256, by omega⟩ := by
      idx_ext
    rw [e', v65]
    unfold partK
    refine Finset.sum_congr rfl fun s _ => ?_
    rw [score_eq X G KV _ _ _ _ hf]
    rfl
  · have e : idx_main_v71 (ix2 i0 i1)
        = ix3 ⟨i0.val / 256, by omega⟩ ⟨i0.val % 256, by omega⟩ ⟨1024 + (⟨i1.val - 1024, by omega⟩ : Fin 1024).val, by simp only; omega⟩ := by
      idx_ext
    rw [e, v70_val, val_main_v68_apply]
    have e' : idx_main_v68 (ix3 ⟨i0.val / 256, by omega⟩ ⟨i0.val % 256, by omega⟩ ⟨i1.val - 1024, by omega⟩)
        = ix4 ⟨i0.val / 256, by omega⟩ ⟨i0.val % 256, by omega⟩ ⟨(i1.val - 1024) / 256, by omega⟩ ⟨(i1.val - 1024) % 256, by omega⟩ := by
      idx_ext
    rw [e', v49]
    rfl

end Cert.ReferenceIdeal.Attn

end
-- ==== Proof.AttnPre.lean ====
/- What the precondition says of the queries and the keys: none of them is infinite. -/
module

public import proofs.«01_k».proof.Defs
public import proofs.«01_k».proof.Proof.AttnRef

@[expose] public section

set_option maxRecDepth 16384

noncomputable section

namespace Cert.Pre_finite

open Idealize.ShloMosaic

/-- The shape facts of the precondition's operations. -/
instance facts : Facts where
  bcast_S_S8192x1024 := by decide
  slices_S1024x2048_S1024x1024_0_0 := by decide
  bcast_S_S1024x1024 := by decide

/-- The word of infinity. -/
theorem ofBits_inf : Ideal.ofBits .bf16 0x7F80#16 = ⊤ := by
  simp [Ideal.ofBits, Ideal.ieee]

/-- A number whose absolute value is below infinity is neither infinity. -/
theorem ne_of_abs (x : EReal) (hx : Ideal.cmp .olt (max x (-x)) (Ideal.ofBits .bf16 0x7F80#16) = 1#1) : x ≠ ⊤ ∧ x ≠ ⊥ := by
  rw [ofBits_inf] at hx
  constructor
  · rintro rfl
    simp [Ideal.cmp] at hx
  · rintro rfl
    simp [Ideal.cmp] at hx

variable [Facts] (X G : FVec Ideal S8192x1024 .bf16) (KV : FVec Ideal S1024x2048 .bf16)

/-- Where the precondition holds, queries and keys are finite. -/
theorem finite (h : (fn (F := Ideal) X KV G).1 = (fun _ => 1#1) ∧ (fn (F := Ideal) X KV G).2 = (fun _ => 1#1)) :
    Cert.ReferenceIdeal.Attn.Fin_ X KV := by
  refine ⟨fun i => ?_, fun a l => ?_⟩
  · exact ne_of_abs _ (congrFun h.1 i)
  · refine ne_of_abs _ (Eq.trans ?_ (congrFun h.2 (ix2 a l)))
    refine congrArg (fun z : EReal => Ideal.cmp .olt (max z (-z)) (Ideal.ofBits .bf16 0x7F80#16)) ?_
    refine congrArg KV (?_ : ix2 _ _ = _)
    idx_ext

end Cert.Pre_finite

end
-- ==== Proof.LnBwd.lean ====
/- The gradient of layer normalisation at one row of 1024 numbers: the form that works from the normalised row, and the form that
differentiation of the defining formula gives. -/
module

public import proofs.«01_k».proof.Proof.LnDefs
public import proofs.«01_k».proof.Proof.AttnAlg

@[expose] public section

set_option maxRecDepth 16384

noncomputable section

namespace Cert.Ln

open Idealize.ShloMosaic Cert.Attn

/-- The variance of a row, with the small constant under the root. -/
def den (z : Fin 1024 → EReal) : EReal := mean (fun k => cent z k * cent z k) + Ideal.ofBits .f32 0x3727C5AC#32

/-- The gradient of a normalised row from the normalised row and the reciprocal deviation. -/
def dln (x : Fin 1024 → EReal) (r : EReal) (u : Fin 1024 → EReal) (k : Fin 1024) : EReal :=
  r * ((u k - mean u) - x k * mean (fun j => u j * x j))

/-- … which depends on the row's entries only. -/
theorem dln_congr {x x' : Fin 1024 → EReal} {r r' : EReal} {u u' : Fin 1024 → EReal} (hx : ∀ k, x k = x' k) (hr : r = r')
    (hu : ∀ k, u k = u' k) (k : Fin 1024) : dln x r u k = dln x' r' u' k := by
  rw [funext hx, hr, funext hu]

/-- The gradient through the variance. -/
def dvar (z u : Fin 1024 → EReal) : EReal :=
  Ideal.div ((∑ j, cent z j * u j) * (Ideal.ofBits .f32 0xBF000000#32 * Ideal.div (rs z) (den z))) (Ideal.ofBits .f32 0x44800000#32)

/-- The gradient of the centred row through its square. -/
def dsq (z u : Fin 1024 → EReal) (k : Fin 1024) : EReal := dvar z u * (Ideal.ofBits .f32 0x40000000#32 * cent z k)

/-- The gradient of a normalised row by differentiation of the formula. -/
def dlnD (z u : Fin 1024 → EReal) (k : Fin 1024) : EReal :=
  (u k * rs z + dsq z u k) + Ideal.div ((∑ j, -(u j * rs z)) + ∑ j, -(dsq z u j)) (Ideal.ofBits .f32 0x44800000#32)

/-- The word of 1024. -/
theorem ofBits_1024 : Ideal.ofBits .f32 0x44800000#32 = ((1024 : ℝ) : EReal) := by
  simp [Ideal.ofBits, Ideal.ieee, -EReal.coe_mul]
  try norm_num

/-- The word of 2. -/
theorem ofBits_2 : Ideal.ofBits .f32 0x40000000#32 = ((2 : ℝ) : EReal) := by
  simp [Ideal.ofBits, Ideal.ieee, -EReal.coe_mul]
  try norm_num

/-- The word of minus one half. -/
theorem ofBits_nhalf : Ideal.ofBits .f32 0xBF000000#32 = ((-(1 / 2) : ℝ) : EReal) := by
  simp [Ideal.ofBits, Ideal.ieee, -EReal.coe_mul, -EReal.coe_neg]
  norm_num

/-- The small constant is a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The scale of the residual is a real. -/
theorem ofBits_alpha : ∃ a : ℝ, Ideal.ofBits .f32 0x3FD744FD#32 = (a : EReal) := by
  refine ⟨14107901 * (2 : ℝ) ^ (-23 : ℤ), ?_⟩
  simp [Ideal.ofBits, Ideal.ieee, -EReal.coe_mul]

/-- The mean of reals. -/
theorem mean_coe (f : Fin 1024 → ℝ) : mean (fun k => (f k : EReal)) = (((∑ k, f k) * (1024 : ℝ)⁻¹ : ℝ) : EReal) := by
  unfold mean
  rw [coe_sum, ofBits_1024, div_real _ _ (by norm_num), ← EReal.coe_mul]

/-- A quotient of infinity by a positive real is infinity. -/
theorem div_inf {x : EReal} (hx : x = ⊤ ∨ x = ⊥) : Ideal.div x (Ideal.ofBits .f32 0x44800000#32) = x := by
  rw [ofBits_1024, div_real _ _ (by norm_num)]
  rcases hx with rfl | rfl
  · exact EReal.top_mul_coe_of_pos (by norm_num)
  · exact EReal.bot_mul_coe_of_pos (by norm_num)

/-- A sum with an infinite term is infinite. -/
theorem sum_inf {ι : Type} [DecidableEq ι] (s : Finset ι) (f : ι → EReal) (j : ι) (hj : j ∈ s) (h : f j = ⊤ ∨ f j = ⊥) :
    ∑ k ∈ s, f k = ⊤ ∨ ∑ k ∈ s, f k = ⊥ := by
  rw [← Finset.add_sum_erase s f hj]
  generalize ∑ k ∈ s.erase j, f k = y
  rcases h with h | h <;> rw [h]
  · induction y <;> simp
  · simp

/-- A row with an infinite entry has infinite variance. -/
theorem den_inf (z : Fin 1024 → EReal) (j : Fin 1024) (h : z j = ⊤ ∨ z j = ⊥) : den z = ⊤ := by
  have hm : mean z = ⊤ ∨ mean z = ⊥ := by
    have hs := sum_inf Finset.univ z j (Finset.mem_univ _) h
    unfold mean
    rw [div_inf hs]
    exact hs
  have hc : ∀ k, cent z k * cent z k = ⊤ := by
    intro k
    unfold cent
    generalize z k = y
    rcases hm with hm | hm <;> rw [hm] <;> induction y <;> simp
  have hv : mean (fun k => cent z k * cent z k) = ⊤ := by
    have hs : ∑ k, cent z k * cent z k = ⊤ := by
      rw [Finset.sum_congr rfl fun k _ => hc k]
      simp [EReal.nsmul_eq_mul]
      exact EReal.coe_mul_top_of_pos (x := 1024) (by norm_num)
    unfold mean
    rw [hs, div_inf (.inl rfl)]
  obtain ⟨e, _, he⟩ := ofBits_eps
  unfold den
  rw [hv, he]
  exact EReal.top_add_coe e

/-- At a row of infinite variance both forms are zero. -/
theorem dln_inf (z u : Fin 1024 → EReal) (h : den z = ⊤) (k : Fin 1024) : dlnD z u k = dln (xhat z) (rs z) u k := by
  have hr : rs z = 0 := by
    show Ideal.rsqrt (den z) = 0
    rw [h]; rfl
  have hd : dvar z u = 0 := by
    unfold dvar
    rw [hr, h, ofBits_1024, div_real _ _ (by norm_num)]
    simp [Ideal.div]
  unfold dlnD dln dsq
  rw [hr, hd, ofBits_1024, div_real _ _ (by norm_num)]
  simp

/-- At a row of reals, with a real gradient, the two forms are equal. -/
theorem dln_coe (z u : Fin 1024 → ℝ) (k : Fin 1024) :
    dlnD (fun j => (z j : EReal)) (fun j => (u j : EReal)) k
      = dln (xhat fun j => (z j : EReal)) (rs fun j => (z j : EReal)) (fun j => (u j : EReal)) k := by
  obtain ⟨e, he, hE⟩ := ofBits_eps
  set c : Fin 1024 → ℝ := fun j => z j - (∑ l, z l) * (1024 : ℝ)⁻¹ with hc
  have h0 : ∑ j, c j = 0 := by
    simp only [hc, Finset.sum_sub_distrib, Finset.sum_const, Finset.card_univ, Fintype.card_fin, nsmul_eq_mul]
    push_cast
    ring
  have hcent : ∀ j, cent (fun j => (z j : EReal)) j = (c j : EReal) := by
    intro j
    unfold cent
    rw [mean_coe, ← EReal.coe_sub]
  set a : ℝ := (∑ j, c j * c j) * (1024 : ℝ)⁻¹ + e with ha
  have hpos : 0 < a := by
    have : 0 ≤ ∑ j, c j * c j := Finset.sum_nonneg fun j _ => mul_self_nonneg _
    positivity
  have hden : den (fun j => (z j : EReal)) = (a : EReal) := by
    unfold den
    simp only [hcent, ← EReal.coe_mul]
    rw [mean_coe, hE, ← EReal.coe_add]
  set r : ℝ := (Real.sqrt a)⁻¹ with hr
  have hrs : rs (fun j => (z j : EReal)) = (r : EReal) := by
    show Ideal.rsqrt (den _) = _
    rw [hden, Ideal.rsqrt_coe, if_neg (not_lt.mpr hpos.le), if_neg hpos.ne']
  have hrr : r * a⁻¹ = r * r * r := by
    have : a⁻¹ = r * r := by
      rw [hr, ← mul_inv, Real.mul_self_sqrt hpos.le]
    rw [this]; ring
  have hx : ∀ j, xhat (fun j => (z j : EReal)) j = ((c j * r : ℝ) : EReal) := by
    intro j
    unfold xhat
    rw [hcent, hrs, ← EReal.coe_mul]
  have hdv : dvar (fun j => (z j : EReal)) (fun j => (u j : EReal))
      = (((∑ j, c j * u j) * (-(1 / 2) * (r * a⁻¹)) * (1024 : ℝ)⁻¹ : ℝ) : EReal) := by
    unfold dvar
    simp only [hcent, ← EReal.coe_mul]
    rw [coe_sum, hrs, hden, div_real _ _ hpos, ofBits_nhalf, ofBits_1024, div_real _ _ (by norm_num)]
    simp only [← EReal.coe_mul]
  have hds : ∀ j, dsq (fun j => (z j : EReal)) (fun j => (u j : EReal)) j
      = (((∑ j, c j * u j) * (-(1 / 2) * (r * a⁻¹)) * (1024 : ℝ)⁻¹ * (2 * c j) : ℝ) : EReal) := by
    intro j
    unfold dsq
    rw [hdv, hcent, ofBits_2, ← EReal.coe_mul, ← EReal.coe_mul]
  unfold dlnD dln
  simp only [hds, hx, hrs, ← EReal.coe_mul, ← EReal.coe_neg]
  rw [mean_coe, mean_coe, coe_sum, coe_sum, ← EReal.coe_add, ofBits_1024, div_real _ _ (by norm_num)]
  simp only [← EReal.coe_mul, ← EReal.coe_add, ← EReal.coe_sub]
  refine congrArg _ ?_
  rw [hrr]
  have e1 : ∑ j, -(u j * r) = -((∑ j, u j) * r) := by rw [Finset.sum_neg_distrib, Finset.sum_mul]
  have e2 : ∑ j, -((∑ j, c j * u j) * (-(1 / 2) * (r * r * r)) * (1024 : ℝ)⁻¹ * (2 * c j)) = 0 := by
    rw [Finset.sum_neg_distrib, ← Finset.mul_sum, ← Finset.mul_sum, h0]
    simp
  have e3 : ∑ j, u j * (c j * r) = (∑ j, c j * u j) * r := by
    rw [Finset.sum_mul]
    exact Finset.sum_congr rfl fun j _ => by ring
  rw [e1, e2, e3]
  ring

/-- The two forms are equal wherever the gradient of the normalised row is finite: the row itself may be anything. -/
theorem dln_eq (z u : Fin 1024 → EReal) (hu : ∀ k, u k ≠ ⊤ ∧ u k ≠ ⊥) (k : Fin 1024) : dlnD z u k = dln (xhat z) (rs z) u k := by
  by_cases h : ∃ j, z j = ⊤ ∨ z j = ⊥
  · obtain ⟨j, hj⟩ := h
    exact dln_inf z u (den_inf z j hj) k
  · simp only [not_exists, not_or] at h
    have hz : z = fun j => ((z j).toReal : EReal) := funext fun j => (EReal.coe_toReal (h j).1 (h j).2).symm
    have hu' : u = fun j => ((u j).toReal : EReal) := funext fun j => (EReal.coe_toReal (hu j).1 (hu j).2).symm
    rw [hz, hu']
    exact dln_coe _ _ k

/-- A row of the gradient that reaches the normalised values: the scaled residual's and the product's. -/
def dx {n d : ℕ} (Z : (⟨2, ![n, 1024]⟩ : Shape).Idx → EReal) (A : (⟨2, ![n, d]⟩ : Shape).Idx → EReal)
    (W : (⟨2, ![1024, d]⟩ : Shape).Idx → EReal) (i : Fin n) (k : Fin 1024) : EReal :=
  Ideal.ofBits .f32 0x3FD744FD#32 * Z (ix2 i k) + ∑ l : Fin d, A (ix2 i l) * W (ix2 k l)

/-- Products and sums of reals are real. -/
theorem real_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- Where the operands are finite, so is that gradient. -/
theorem dx_real {n d : ℕ} (Z : (⟨2, ![n, 1024]⟩ : Shape).Idx → EReal) (A : (⟨2, ![n, d]⟩ : Shape).Idx → EReal)
    (W : (⟨2, ![1024, d]⟩ : Shape).Idx → EReal) (hZ : ∀ i, Z i ≠ ⊤ ∧ Z i ≠ ⊥) (hA : ∀ i, A i ≠ ⊤ ∧ A i ≠ ⊥)
    (hW : ∀ i, W i ≠ ⊤ ∧ W i ≠ ⊥) (i : Fin n) (k : Fin 1024) : dx Z A W i k ≠ ⊤ ∧ dx Z A W i k ≠ ⊥ := by
  obtain ⟨a, ha⟩ := ofBits_alpha
  unfold dx
  lift Z to (⟨2, ![n, 1024]⟩ : Shape).Idx → ℝ using hZ
  lift A to (⟨2, ![n, d]⟩ : Shape).Idx → ℝ using hA
  lift W to (⟨2, ![1024, d]⟩ : Shape).Idx → ℝ using hW
  simp only [ha, ← EReal.coe_mul]
  rw [coe_sum, ← EReal.coe_add]
  exact ⟨EReal.coe_ne_top _, EReal.coe_ne_bot _⟩

/-- A sum over the rows that are equal to `a` modulo eight. -/
def fold8 (E : Fin 8192 → EReal) (a : Fin 8) : EReal := ∑ q : Fin 1024, E ⟨q.val * 8 + a.val, by omega⟩

/-- Sixteen points that begin from zero and each add their block of 512 rows, folded by eight, leave the whole fold. -/
theorem fold {N : ℕ} (f : (k : ℕ) → k < N → (⟨2, ![8, 1024]⟩ : Shape).Idx → EReal) (D : Fin N → Fin 512 → Fin 1024 → EReal)
    (E : Fin 8192 → Fin 1024 → EReal) (hN : N = 16)
    (h0 : ∀ t : Fin N, t.val % 16 = 0 → ∀ i : (⟨2, ![8, 1024]⟩ : Shape).Idx,
      f t.val t.isLt i = 0 + ∑ j : Fin 64, D t ⟨j.val * 8 + (i 0).val, by have h : (i 0).val < 8 := (i 0).isLt; omega⟩ (i 1))
    (hs : ∀ t : Fin N, ¬t.val % 16 = 0 → ∀ i : (⟨2, ![8, 1024]⟩ : Shape).Idx,
      f t.val t.isLt i = f (t.val - 1) (Nat.lt_of_le_of_lt (Nat.sub_le _ _) t.isLt) i
        + ∑ j : Fin 64, D t ⟨j.val * 8 + (i 0).val, by have h : (i 0).val < 8 := (i 0).isLt; omega⟩ (i 1))
    (hD : ∀ t r k, D t r k = E ⟨512 * t.val + r.val, by omega⟩ k)
    (t : Fin N) (hf : t.val % 16 = 15) (y : (⟨2, ![8, 1024]⟩ : Shape).Idx) (z0 : Fin 8) (z1 : Fin 1024) (e0 : z0.val = (y 0).val)
    (e1 : z1.val = (y 1).val) : f t.val t.isLt y = fold8 (fun r => E r z1) z0 := by
  obtain rfl : z0 = y 0 := Fin.ext e0
  obtain rfl : z1 = y 1 := Fin.ext e1
  subst hN
  rw [Pipeline.eq_sum_fin_of_reset_step_apply_of_flush f 16 (fun _ => (0 : EReal))
    (fun t i => ∑ j : Fin 64, D t ⟨j.val * 8 + (i 0).val, by have h : (i 0).val < 8 := (i 0).isLt; omega⟩ (i 1)) h0 hs t hf y, zero_add]
  unfold fold8
  refine Fin.sum_mul_add_congr fun s k hl => ?_
  refine (hD _ _ _).trans (congrArg (fun r => E r (y 1)) (Fin.ext ?_))
  show 512 * (16 * (t.val / 16) + s.val) + (k.val * 8 + (y 0).val) = (s.val * 64 + k.val) * 8 + (y 0).val
  omega

end Cert.Ln

end
-- ==== Proof.LnBwdPre.lean ====
/- What the preconditions of the layer normalisations' backward calls say: the gradient that enters the normalisation is finite. -/
module

public import proofs.«01_k».proof.Defs
public import proofs.«01_k».proof.Proof.AttnPre
public import proofs.«01_k».proof.Proof.LnBwd

@[expose] public section

set_option maxRecDepth 16384

noncomputable section

namespace Cert.Ln

open Idealize.ShloMosaic

/-- A number whose absolute value is below the f32 infinity is neither infinity. -/
theorem ne_of_abs (x : EReal) (hx : Ideal.cmp .olt (max x (-x)) (Ideal.ofBits .f32 0x7F800000#32) = 1#1) : x ≠ ⊤ ∧ x ≠ ⊥ := by
  have e : Ideal.ofBits .f32 0x7F800000#32 = Ideal.ofBits .bf16 0x7F80#16 := by simp [Ideal.ofBits, Ideal.ieee]
  exact Cert.Pre_finite.ne_of_abs x (e ▸ hx)

/-- Where gain, matrix and the two gradients that arrive are finite, so is the gradient times the gain. -/
theorem real {d : ℕ} (g : (⟨1, ![1024]⟩ : Shape).Idx → EReal) (w : (⟨2, ![1024, d]⟩ : Shape).Idx → EReal)
    (dy : (⟨2, ![8192, 1024]⟩ : Shape).Idx → EReal) (a : (⟨2, ![8192, d]⟩ : Shape).Idx → EReal)
    (hg : ∀ i, Ideal.cmp .olt (max (g i) (-(g i))) (Ideal.ofBits .f32 0x7F800000#32) = 1#1)
    (hw : ∀ i, Ideal.cmp .olt (max (w i) (-(w i))) (Ideal.ofBits .bf16 0x7F80#16) = 1#1)
    (hd : ∀ i, Ideal.cmp .olt (max (dy i) (-(dy i))) (Ideal.ofBits .f32 0x7F800000#32) = 1#1)
    (ha : ∀ i, Ideal.cmp .olt (max (a i) (-(a i))) (Ideal.ofBits .bf16 0x7F80#16) = 1#1) (i : Fin 8192) (k : Fin 1024) :
    dx dy a w i k * g (ix1 k) ≠ ⊤ ∧ dx dy a w i k * g (ix1 k) ≠ ⊥ :=
  real_mul (dx_real dy a w (fun i => ne_of_abs _ (hd i)) (fun i => Cert.Pre_finite.ne_of_abs _ (ha i))
    (fun i => Cert.Pre_finite.ne_of_abs _ (hw i)) i k) (ne_of_abs _ (hg _))

end Cert.Ln

/-- The shape facts of the preconditions' operations. -/
instance Cert.Pre_finite5.facts : Cert.Pre_finite5.Facts where
  bcast_S_S1024 := by decide
  bcast_S_S1024x4096 := by decide
  bcast_S_S8192x1024 := by decide
  bcast_S_S8192x4096 := by decide

instance Cert.Pre_finite14.facts : Cert.Pre_finite14.Facts where
  bcast_S_S1024 := by decide
  bcast_S_S1024x1024 := by decide
  bcast_S_S8192x1024 := by decide

instance Cert.Pre_finite15.facts : Cert.Pre_finite15.Facts where
  bcast_S_S1024 := by decide
  bcast_S_S1024x2432 := by decide
  bcast_S_S8192x1024 := by decide
  bcast_S_S8192x2432 := by decide

end
-- ==== Proof.RefFrame.lean ====
/- The frame of a reference, from its run. -/
module

public import Idealize.ShloMosaic.Lib.Claim

@[expose] public section

noncomputable section

namespace Cert.Proof

open Idealize.ShloMosaic Idealize.SL.Sem

/-- A run that leaves `P` on every device, in a program without semaphores, has the frame of any `Q` that follows from `P`. -/
theorem frame_of {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val}
    {P Q : PUnit × MemSt nD τ sig Val → Dev nD → Prop} (hs : sig.nSem + sig.nDmaSem = 0) (h : θ_run defs p s fun r => ∀ c, P r c)
    (hq : ∀ r c, P r c → Q r c) : θ_run defs p s fun r => (∀ c, Q r c) ∧ r.2.sem = fun _ => 0 :=
  (θ_run defs p s).mono (fun r h => ⟨fun c => hq r c (h c), sem_eq_zero_of_no_sems hs r.2⟩) h

end Cert.Proof

end
-- ==== Proof.Adam.lean ====
/- The AdamW update: stated once, for one element, and applied to the weights that every device keeps whole. -/
module

public import proofs.«01_k».proof.Proof.Gen.Kernel17Ideal.Value
public import proofs.«01_k».proof.Proof.Gen.Reference17Ideal.Read
public import Idealize.ShloMosaic.Lib.Pipeline.ValueKit
public import Idealize.ShloMosaic.Lib.Pointwise

@[expose] public section

set_option maxRecDepth 16384

noncomputable section

namespace Cert.Adam

open Idealize.ShloMosaic

/-- The first moment after the step, from the gradient and the moment before. -/
def mom (g m : EReal) : EReal := Ideal.ofBits .f32 0x3F666666#32 * m + Ideal.ofBits .f32 0x3DCCCCCD#32 * g

/-- The second moment after the step. -/
def var (g v : EReal) : EReal := Ideal.ofBits .f32 0x3F7FBE77#32 * v + Ideal.ofBits .f32 0x3A83126F#32 * (g * g)

/-- The change of the weight: the corrected first moment over the root of the corrected second, with the weight's decay, times the rate. -/
def delta (w g m v : EReal) : EReal :=
  Ideal.ofBits .f32 0xBA83126F#32
    * (Ideal.div (Ideal.div (mom g m) (Ideal.ofBits .f32 0x3F26BD02#32))
        (Ideal.sqrt (Ideal.div (var g v) (Ideal.ofBits .f32 0x3C231ACC#32)) + Ideal.ofBits .f32 0x322BCC77#32)
      + Ideal.ofBits .f32 0x3C23D70A#32 * w)

/-- Of eight devices' parts, the sum. -/
def parts {r : ℕ} (P : (⟨3, ![8, r, 128]⟩ : Shape).Idx → EReal) (i : (⟨2, ![r, 128]⟩ : Shape).Idx) : EReal :=
  ∑ k : Fin 8, P (ix3 k (i 0) (i 1))

end Cert.Adam

namespace Cert.Kernel17Ideal.Value

open Idealize.ShloMosaic Idealize.ShloMosaic.TcCoe Idealize.SL.Sem
open Cert.Kernel17Ideal Cert.Kernel17Ideal.Gen Cert.Adam
open Idealize.ShloMosaic.Pipeline (Dat)

/-- The corners of the blocks of two and of three dimensions. -/
theorem corner2 : (![0, 0] : Fin 2 → ℕ) = fun _ => 0 := by decide

/-- The same for three. -/
theorem corner3 : (![0, 0, 0] : Fin 3 → ℕ) = fun _ => 0 := by decide

/-- The first moment's store, element by element. -/
theorem pay1 (g m : Vec Ideal S2312x128 .f32) (y : S2312x128.Idx) : k0_pay1 g m y = mom (g y) (m y) := by
  pointwise [k0_pay1, mom]

/-- The second moment's store. -/
theorem pay2 (g v : Vec Ideal S2312x128 .f32) (y : S2312x128.Idx) : k0_pay2 g v y = var (g y) (v y) := by
  pointwise [k0_pay2, var]

/-- The store of the weight's change. -/
theorem pay3 (g w m v : Vec Ideal S2312x128 .f32) (y : S2312x128.Idx) : k0_pay3 g w m v y = delta (w y) (g y) (m y) (v y) := by
  pointwise [k0_pay3, k0_pay2, k0_pay1, delta, mom, var]

/-- The gradient's store: the parts one after the other. -/
theorem pay4 (p : Fin 8 → Vec Ideal S1x2312x128 .f32) (y : S2312x128.Idx) :
    k0_pay4 (p 0) (p 1) (p 2) (p 3) (p 4) (p 5) (p 6) (p 7) y = ∑ k : Fin 8, p k (ix3 0 (y 0) (y 1)) := by
  rw [Fin.sum_univ_eight]
  pointwise [k0_pay4]

variable (m : (ℓ : Loc nD τ sig) → Buf (Elt Ideal) ℓ)

/-- The block indices of the windows: one block of each array, and part `k` of the gradients. -/
theorem idx : ∀ t : Fin cfg0.N, win0_0.index t = ![0, 0] ∧ win0_1.index t = ![0, 0] ∧ win0_2.index t = ![0, 0]
    ∧ win0_3.index t = ![0, 0, 0] ∧ win0_4.index t = ![1, 0, 0] ∧ win0_5.index t = ![2, 0, 0] ∧ win0_6.index t = ![3, 0, 0]
    ∧ win0_7.index t = ![4, 0, 0] ∧ win0_8.index t = ![5, 0, 0] ∧ win0_9.index t = ![6, 0, 0] ∧ win0_10.index t = ![7, 0, 0]
    ∧ win0_11.index t = ![0, 0] ∧ win0_12.index t = ![0, 0] ∧ win0_13.index t = ![0, 0] ∧ win0_14.index t = ![0, 0] :=
  (by decide +kernel : ∀ t : Fin grid0.N, _)

/-- The block of the gradient, from the blocks of the parts. -/
theorem grad (c : Dev nD) (t : Fin cfg0.N) (y : S2312x128.Idx) :
    k0_pay5 (iblk m c 0 t) (iblk m c 1 t) (iblk m c 2 t) (iblk m c 3 t) (iblk m c 4 t) (iblk m c 5 t) (iblk m c 6 t) (iblk m c 7 t)
      (iblk m c 8 t) (iblk m c 9 t) (iblk m c 10 t) y = parts (m ((c : Thread nD τ).loc main_arg3)) y := by
  unfold k0_pay5
  simp only [View.ld_unit_zero (S := S1x2312x128) corner3]
  refine (pay4 ![iblk m c 3 t, iblk m c 4 t, iblk m c 5 t, iblk m c 6 t, iblk m c 7 t, iblk m c 8 t, iblk m c 9 t, iblk m c 10 t] y).trans ?_
  unfold parts
  refine Finset.sum_congr (M := EReal) rfl fun k _ => ?_
  fin_cases k <;> blk_ext [iblk, V, idx t]

/-- The gradient after the run: the sum of the parts. -/
theorem finalG (c : Dev nD) : (dats m 0 c).arrAt 11 cfg0.N = parts (m ((c : Thread nD τ).loc main_arg3)) := by
  refine (dats m 0 c).arrAt_eq_of_covers 11 _ (by decide +kernel) fun t hf y => ?_
  blk_simp
  rw [after0_11]
  unfold out0_11
  rw [View.canon_unit_zero corner2]
  refine (grad m c t y).trans (congrArg _ ?_)
  blk_ext [idx t]

/-- The weights' change after the run. -/
theorem finalD (c : Dev nD) : (dats m 0 c).arrAt 12 cfg0.N = fun i => delta (m ((c : Thread nD τ).loc main_arg0) i)
    (parts (m ((c : Thread nD τ).loc main_arg3)) i) (m ((c : Thread nD τ).loc main_arg1) i) (m ((c : Thread nD τ).loc main_arg2) i) := by
  refine (dats m 0 c).arrAt_eq_of_covers 12 _ (by decide +kernel) fun t hf y => ?_
  blk_simp
  rw [after0_12]
  unfold out0_12
  rw [View.canon_unit_zero corner2]
  simp only [View.ld_unit_zero (S := S2312x128) corner2]
  rw [pay3]
  refine congr (congr (congr (congrArg delta ?_) ((grad m c t y).trans (congrArg _ ?_))) ?_) ?_
  · blk_ext [iblk, V, idx t]
  · blk_ext [idx t]
  · blk_ext [iblk, V, idx t]
  · blk_ext [iblk, V, idx t]

/-- The first moments after the run. -/
theorem finalM (c : Dev nD) : (dats m 0 c).arrAt 13 cfg0.N = fun i => mom (parts (m ((c : Thread nD τ).loc main_arg3)) i)
    (m ((c : Thread nD τ).loc main_arg1) i) := by
  refine (dats m 0 c).arrAt_eq_of_covers 13 _ (by decide +kernel) fun t hf y => ?_
  blk_simp
  rw [after0_13]
  unfold out0_13
  rw [View.canon_unit_zero corner2]
  simp only [View.ld_unit_zero (S := S2312x128) corner2]
  rw [pay1]
  refine congrArg₂ mom ((grad m c t y).trans (congrArg _ ?_)) ?_
  · blk_ext [idx t]
  · blk_ext [iblk, V, idx t]

/-- The second moments after the run. -/
theorem finalV (c : Dev nD) : (dats m 0 c).arrAt 14 cfg0.N = fun i => var (parts (m ((c : Thread nD τ).loc main_arg3)) i)
    (m ((c : Thread nD τ).loc main_arg2) i) := by
  refine (dats m 0 c).arrAt_eq_of_covers 14 _ (by decide +kernel) fun t hf y => ?_
  blk_simp
  rw [after0_14]
  unfold out0_14
  rw [View.canon_unit_zero corner2]
  simp only [View.ld_unit_zero (S := S2312x128) corner2]
  rw [pay2]
  refine congrArg₂ var ((grad m c t y).trans (congrArg _ ?_)) ?_
  · blk_ext [idx t]
  · blk_ext [iblk, V, idx t]

end Cert.Kernel17Ideal.Value

namespace Cert.Reference17Ideal.Adam

open Idealize.ShloMosaic Idealize.ShloMosaic.TcCoe
open Cert.Reference17Ideal Cert.Reference17Ideal.Gen Cert.Reference17Ideal.Read Cert.Adam

/-- The reference's gradient. -/
theorem v0 (P : (⟨S8x2312x128, .f32⟩ : BufTy).Contents (Elt Ideal)) : val_main_v0 (F := Ideal) P = parts P := by
  funext i
  unfold parts
  pointwise [val_main_v0, val_main_cst]

/-- The reference's first moment. -/
theorem v5 (m : (⟨S2312x128, .f32⟩ : BufTy).Contents (Elt Ideal)) (P : (⟨S8x2312x128, .f32⟩ : BufTy).Contents (Elt Ideal)) :
    val_main_v5 (F := Ideal) m P = fun i => mom (parts P i) (m i) := by
  funext i
  rw [← v0]
  pointwise [val_main_v5, val_main_v4, val_main_v3, val_main_v2, val_main_v1, val_main_cst_0, val_main_cst_1, mom]

/-- The reference's second moment. -/
theorem v11 (v : (⟨S2312x128, .f32⟩ : BufTy).Contents (Elt Ideal)) (P : (⟨S8x2312x128, .f32⟩ : BufTy).Contents (Elt Ideal)) :
    val_main_v11 (F := Ideal) v P = fun i => var (parts P i) (v i) := by
  funext i
  rw [← v0]
  pointwise [val_main_v11, val_main_v10, val_main_v9, val_main_v8, val_main_v7, val_main_v6, val_main_cst_2, val_main_cst_3, var]

/-- The reference's change of the weight. -/
theorem v24 (w m v : (⟨S2312x128, .f32⟩ : BufTy).Contents (Elt Ideal)) (P : (⟨S8x2312x128, .f32⟩ : BufTy).Contents (Elt Ideal)) :
    val_main_v24 (F := Ideal) w m v P = fun i => delta (w i) (parts P i) (m i) (v i) := by
  have hm := v5 m P
  have hv := v11 v P
  funext i
  unfold delta
  have em : val_main_v5 (F := Ideal) m P i = _ := congrFun hm i
  have ev : val_main_v11 (F := Ideal) v P i = _ := congrFun hv i
  rw [← em, ← ev]
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8]

end Cert.Reference17Ideal.Adam
-- ==== Proof.AdamJoin.lean ====
/- The claims about the AdamW update of the weights that are kept whole: the frames, and that kernel and reference leave the same. -/
module

public import proofs.«01_k».proof.Defs
public import proofs.«01_k».proof.Proof.RefFrame
public import proofs.«01_k».proof.Proof.Gen.Kernel17.Frame
public import proofs.«01_k».proof.Proof.Gen.Reference17Ideal.Run
public import proofs.«01_k».proof.Proof.Adam

@[expose] public section

noncomputable section

namespace Cert.Proof

open Idealize.ShloMosaic Idealize.SL.Sem

/-- The frame of the update of the weights that are kept whole, at the words. -/
theorem frameK17 : Cert.quiescent_Kernel17 := fun m ρ _ => Cert.Kernel17.Gen.frame m ρ

/-- … on the extended reals. -/
theorem frameKI17 : Cert.quiescent_Kernel17Ideal := fun m ρ _ => Cert.Kernel17Ideal.Gen.frame m ρ

set_option maxHeartbeats 1600000 in
/-- The reference's frame. -/
theorem frameRI17 : Cert.quiescent_Reference17Ideal := fun m g _ =>
  frame_of (by decide) (Cert.Reference17Ideal.Value.run m g) fun _ _ h => h.2.2.2.2

set_option maxHeartbeats 1600000 in
set_option maxRecDepth 16384 in
/-- The gradient, the weights' change and the moments are the reference's. -/
theorem algebraic17 : Cert.algebraic_Kernel17Ideal_Reference17Ideal := by
  pair_intro
  · run_from Cert.Kernel17Ideal.Value.run_blocks m g
  · refine (θ_run _ _ _).mono (fun r h c => ?_) (Cert.Reference17Ideal.Value.run m' g')
    obtain ⟨q0, q1, q2, q3, q⟩ := h c
    obtain ⟨e0, e1, e2, e3⟩ := hagree c
    refine ⟨q0.trans ?_, q1.trans ?_, q2.trans ?_, q3.trans ?_, q⟩
    · rw [Cert.Reference17Ideal.Read.val_main_v0_eq, e3]
      exact (Cert.Reference17Ideal.Adam.v0 _).trans (Cert.Kernel17Ideal.Value.finalG m c).symm
    · rw [Cert.Reference17Ideal.Read.val_main_v24_eq, e0, e1, e2, e3]
      exact (Cert.Reference17Ideal.Adam.v24 _ _ _ _).trans (Cert.Kernel17Ideal.Value.finalD m c).symm
    · rw [Cert.Reference17Ideal.Read.val_main_v5_eq, e1, e3]
      exact (Cert.Reference17Ideal.Adam.v5 _ _).trans (Cert.Kernel17Ideal.Value.finalM m c).symm
    · rw [Cert.Reference17Ideal.Read.val_main_v11_eq, e2, e3]
      exact (Cert.Reference17Ideal.Adam.v11 _ _).trans (Cert.Kernel17Ideal.Value.finalV m c).symm

end Cert.Proof

end
-- ==== Proof.AdamLayers.lean ====
/- The AdamW update of the four layers' shards of a weight that is divided among the devices. -/
module

public import proofs.«01_k».proof.Proof.Adam
public import proofs.«01_k».proof.Proof.Gen.Kernel18Ideal.Value
public import proofs.«01_k».proof.Proof.Gen.Reference18Ideal.Read
public import Idealize.ShloMosaic.Lib.Pipeline.ReadBack

@[expose] public section

set_option maxRecDepth 16384

noncomputable section

namespace Cert.Adam

open Idealize.ShloMosaic

section Layers

variable {r c : ℕ}

/-- The shards' gradient: in each layer the device's own part and the three that came from the others. -/
def shards (own : Fin 4 → (⟨2, ![r, c]⟩ : Shape).Idx → EReal) (rem : Fin 4 → (⟨3, ![3, r, c]⟩ : Shape).Idx → EReal)
    (i : (⟨3, ![4, r, c]⟩ : Shape).Idx) : EReal :=
  own (i 0) (ix2 (i 1) (i 2)) + ∑ j : Fin 3, rem (i 0) (ix3 j (i 1) (i 2))

/-- One of four layers' arrays, chosen by comparisons one after the other. -/
theorem ladder {ι : Type} (k : Fin 4) (a b d e : ι → EReal) (x : ι) :
    (if h : k.val < 1 then a x else if h : k.val - 1 < 1 then b x else if h : k.val - 1 - 1 < 1 then d x else e x) = ![a, b, d, e] k x := by
  fin_cases k <;> rfl

/-- What the four stores of an element have to hold, where its gradient, weight and moments are given. -/
structure Stored (g w m v og od om ov : EReal) : Prop where
  grad : og = g
  delta : od = delta w g m v
  mom : om = mom g m
  var : ov = var g v

end Layers

end Cert.Adam

namespace Cert.Kernel18Ideal.Value

open Idealize.ShloMosaic Idealize.ShloMosaic.TcCoe Idealize.SL.Sem
open Cert.Kernel18Ideal Cert.Kernel18Ideal.Gen Cert.Adam
open Idealize.ShloMosaic.Pipeline (Dat)

/-- The gradient's value in one layer's branch, element by element. -/
theorem pay17 (o : Vec Ideal S128x1024 .f32) (p q r : Vec Ideal S1x128x1024 .bf16) (y : S128x1024.Idx) :
    k0_pay17 o p q r y = o y + (p (ix3 0 (y 0) (y 1)) + q (ix3 0 (y 0) (y 1)) + r (ix3 0 (y 0) (y 1))) := by
  rw [← add_assoc (G := EReal), ← add_assoc (G := EReal)]
  pointwise [k0_pay17]

/-- The four stores of one layer's branch. The other layers' branches are the same operations. -/
theorem branch (o : Vec Ideal S128x1024 .f32) (p q r : Vec Ideal S1x128x1024 .bf16) (w a b : Vec Ideal S1x128x1024 .f32) (y : S1x128x1024.Idx) :
    Stored (k0_pay17 o p q r (ix2 (y 1) (y 2))) (w y) (a y) (b y)
      (k0_pay18 o p q r y) (k0_pay2 (k0_pay19 w) (k0_pay20 o p q r a) (k0_pay21 b) (k0_pay22 o p q r) y)
      (k0_pay3 (k0_pay20 o p q r a) y) (k0_pay4 (k0_pay21 b) (k0_pay22 o p q r) y) := by
  constructor
  · pointwise [k0_pay18]
  · pointwise [k0_pay2, k0_pay1, k0_pay19, k0_pay20, k0_pay21, k0_pay22, delta, mom, var]
  · pointwise [k0_pay3, k0_pay20, mom]
  · pointwise [k0_pay4, k0_pay1, k0_pay21, k0_pay22, var]

variable (m : (ℓ : Loc nD τ sig) → Buf (Elt Ideal) ℓ)

/-- The four stores of layer 0. -/
theorem out_A (c : Dev nD) (t : Fin cfg0.N) (y : S1x128x1024.Idx) (h : t.val % 4 = 0) :
    Stored (k0_pay17 (iblk m c 3 t) (iblk m c 7 t) (iblk m c 8 t) (iblk m c 9 t) (ix2 (y 1) (y 2)))
      (iblk m c 0 t y) (iblk m c 1 t y) (iblk m c 2 t y)
      ((outsAt0 m c t.val t.isLt).1 y) ((outsAt0 m c t.val t.isLt).2.1 y) ((outsAt0 m c t.val t.isLt).2.2.1 y)
      ((outsAt0 m c t.val t.isLt).2.2.2 y) := by
  have hb := branch (iblk m c 3 t) (iblk m c 7 t) (iblk m c 8 t) (iblk m c 9 t) (iblk m c 0 t) (iblk m c 1 t) (iblk m c 2 t) y
  constructor <;> rw [outsAt0_A m c t h (by omega) (by omega) (by omega)] <;> frame_out
  · exact hb.grad
  · exact hb.delta
  · exact hb.mom
  · exact hb.var

/-- The four stores of layer 1. -/
theorem out_B (c : Dev nD) (t : Fin cfg0.N) (y : S1x128x1024.Idx) (h : t.val % 4 = 1) :
    Stored (k0_pay17 (iblk m c 4 t) (iblk m c 10 t) (iblk m c 11 t) (iblk m c 12 t) (ix2 (y 1) (y 2)))
      (iblk m c 0 t y) (iblk m c 1 t y) (iblk m c 2 t y)
      ((outsAt0 m c t.val t.isLt).1 y) ((outsAt0 m c t.val t.isLt).2.1 y) ((outsAt0 m c t.val t.isLt).2.2.1 y)
      ((outsAt0 m c t.val t.isLt).2.2.2 y) := by
  have hb := branch (iblk m c 4 t) (iblk m c 10 t) (iblk m c 11 t) (iblk m c 12 t) (iblk m c 0 t) (iblk m c 1 t) (iblk m c 2 t) y
  constructor <;> rw [outsAt0_B m c t (by omega) h (by omega) (by omega)] <;> frame_out
  · exact hb.grad
  · exact hb.delta
  · exact hb.mom
  · exact hb.var

/-- The four stores of layer 2. -/
theorem out_C (c : Dev nD) (t : Fin cfg0.N) (y : S1x128x1024.Idx) (h : t.val % 4 = 2) :
    Stored (k0_pay17 (iblk m c 5 t) (iblk m c 13 t) (iblk m c 14 t) (iblk m c 15 t) (ix2 (y 1) (y 2)))
      (iblk m c 0 t y) (iblk m c 1 t y) (iblk m c 2 t y)
      ((outsAt0 m c t.val t.isLt).1 y) ((outsAt0 m c t.val t.isLt).2.1 y) ((outsAt0 m c t.val t.isLt).2.2.1 y)
      ((outsAt0 m c t.val t.isLt).2.2.2 y) := by
  have hb := branch (iblk m c 5 t) (iblk m c 13 t) (iblk m c 14 t) (iblk m c 15 t) (iblk m c 0 t) (iblk m c 1 t) (iblk m c 2 t) y
  constructor <;> rw [outsAt0_C m c t (by omega) (by omega) h (by omega)] <;> frame_out
  · exact hb.grad
  · exact hb.delta
  · exact hb.mom
  · exact hb.var

/-- The four stores of layer 3. -/
theorem out_D (c : Dev nD) (t : Fin cfg0.N) (y : S1x128x1024.Idx) (h : t.val % 4 = 3) :
    Stored (k0_pay17 (iblk m c 6 t) (iblk m c 16 t) (iblk m c 17 t) (iblk m c 18 t) (ix2 (y 1) (y 2)))
      (iblk m c 0 t y) (iblk m c 1 t y) (iblk m c 2 t y)
      ((outsAt0 m c t.val t.isLt).1 y) ((outsAt0 m c t.val t.isLt).2.1 y) ((outsAt0 m c t.val t.isLt).2.2.1 y)
      ((outsAt0 m c t.val t.isLt).2.2.2 y) := by
  have hb := branch (iblk m c 6 t) (iblk m c 16 t) (iblk m c 17 t) (iblk m c 18 t) (iblk m c 0 t) (iblk m c 1 t) (iblk m c 2 t) y
  constructor <;> rw [outsAt0_D m c t (by omega) (by omega) (by omega) h] <;> frame_out
  · exact hb.grad
  · exact hb.delta
  · exact hb.mom
  · exact hb.var

/-- The block indices of the windows at layer `t`: the layer's block of weight, moments and results, the whole own parts, part `j` from
    the others. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![0, 0, 0] ∧ win0_8.index t = ![1, 0, 0] ∧ win0_9.index t = ![2, 0, 0]
    ∧ win0_10.index t = ![0, 0, 0] ∧ win0_11.index t = ![1, 0, 0] ∧ win0_12.index t = ![2, 0, 0]
    ∧ win0_13.index t = ![0, 0, 0] ∧ win0_14.index t = ![1, 0, 0] ∧ win0_15.index t = ![2, 0, 0]
    ∧ win0_16.index t = ![0, 0, 0] ∧ win0_17.index t = ![1, 0, 0] ∧ win0_18.index t = ![2, 0, 0]
    ∧ win0_19.index t = ![t.val, 0, 0] ∧ win0_20.index t = ![t.val, 0, 0] ∧ win0_21.index t = ![t.val, 0, 0] ∧ win0_22.index t = ![t.val, 0, 0] :=
  (by decide +kernel : ∀ t : Fin grid0.N, _)

/-- There are four grid points. -/
theorem lt4 (t : Fin cfg0.N) : t.val < 4 := lt_of_lt_of_eq t.isLt (show cfg0.N = 4 from N_0)

/-- The own parts, by layer. -/
def own (c : Dev nD) : Fin 4 → S128x1024.Idx → EReal := ![m ((c : Thread nD τ).loc main_arg3), m ((c : Thread nD τ).loc main_arg4),
  m ((c : Thread nD τ).loc main_arg5), m ((c : Thread nD τ).loc main_arg6)]

/-- The parts from the others, by layer. -/
def rem (c : Dev nD) : Fin 4 → S3x128x1024.Idx → EReal := ![m ((c : Thread nD τ).loc main_arg7), m ((c : Thread nD τ).loc main_arg8),
  m ((c : Thread nD τ).loc main_arg9), m ((c : Thread nD τ).loc main_arg10)]

/-- The shards' gradient from the arguments. -/
def G (c : Dev nD) : S4x128x1024.Idx → EReal := shards (own m c) (rem m c)

/-- The gradient's value in the branch of layer `k`, where the blocks it reads are that layer's. -/
theorem layer (c : Dev nD) (k : Fin 4) (y : S1x128x1024.Idx) (i : S4x128x1024.Idx) (hi : (i 0).val = k.val)
    (o : Vec Ideal S128x1024 .f32) (p q r : Vec Ideal S1x128x1024 .bf16)
    (ho : o (ix2 (y 1) (y 2)) = own m c k (ix2 (i 1) (i 2))) (hp : p (ix3 0 (y 1) (y 2)) = rem m c k (ix3 0 (i 1) (i 2)))
    (hq : q (ix3 0 (y 1) (y 2)) = rem m c k (ix3 1 (i 1) (i 2))) (hr : r (ix3 0 (y 1) (y 2)) = rem m c k (ix3 2 (i 1) (i 2))) :
    k0_pay17 o p q r (ix2 (y 1) (y 2)) = G m c i := by
  obtain rfl : i 0 = k := Fin.ext hi
  rw [pay17]
  unfold G shards
  rw [Fin.sum_univ_three, ← hp, ← hq, ← hr]
  exact congrArg (· + _) ho

set_option maxHeartbeats 1600000 in
/-- The stores at a point, from the arguments. -/
theorem point (c : Dev nD) (t : Fin cfg0.N) (y : S1x128x1024.Idx) (i : S4x128x1024.Idx) (e0 : (i 0).val = t.val) (e1 : (i 1).val = (y 1).val)
    (e2 : (i 2).val = (y 2).val) :
    Stored (G m c i) (m ((c : Thread nD τ).loc main_arg0) i) (m ((c : Thread nD τ).loc main_arg1) i) (m ((c : Thread nD τ).loc main_arg2) i)
      ((outsAt0 m c t.val t.isLt).1 y) ((outsAt0 m c t.val t.isLt).2.1 y) ((outsAt0 m c t.val t.isLt).2.2.1 y)
      ((outsAt0 m c t.val t.isLt).2.2.2 y) := by
  have ht := lt4 t
  have hw : iblk m c 0 t y = m ((c : Thread nD τ).loc main_arg0) i := by blk_ext [iblk, V, idx t]
  have ha : iblk m c 1 t y = m ((c : Thread nD τ).loc main_arg1) i := by blk_ext [iblk, V, idx t]
  have hb : iblk m c 2 t y = m ((c : Thread nD τ).loc main_arg2) i := by blk_ext [iblk, V, idx t]
  rw [← hw, ← ha, ← hb]
  have hy : (y 0).val < 1 := (y 0).isLt
  obtain h | h | h | h : t.val = 0 ∨ t.val = 1 ∨ t.val = 2 ∨ t.val = 3 := by omega
  · refine layer m c 0 y i (by rw [e0, h]; rfl) _ _ _ _ ?_ ?_ ?_ ?_ ▸ out_A m c t y (by omega) <;> blk_ext [iblk, V, own, rem, idx t]
  · refine layer m c 1 y i (by rw [e0, h]; rfl) _ _ _ _ ?_ ?_ ?_ ?_ ▸ out_B m c t y (by omega) <;> blk_ext [iblk, V, own, rem, idx t]
  · refine layer m c 2 y i (by rw [e0, h]; rfl) _ _ _ _ ?_ ?_ ?_ ?_ ▸ out_C m c t y (by omega) <;> blk_ext [iblk, V, own, rem, idx t]
  · refine layer m c 3 y i (by rw [e0, h]; rfl) _ _ _ _ ?_ ?_ ?_ ?_ ▸ out_D m c t y (by omega) <;> blk_ext [iblk, V, own, rem, idx t]

/-- The gradient after the run. -/
theorem finalG (c : Dev nD) : (dats m 0 c).arrAt 19 cfg0.N = G m c := by
  refine (dats m 0 c).arrAt_eq_of_covers 19 _ (by decide +kernel) fun t hf y => ?_
  blk_simp
  rw [after0_19]
  have hy : (y 0).val < 1 := (y 0).isLt
  refine (point m c t y _ ?_ ?_ ?_).grad <;> blk_simp [idx t] <;> simp

/-- The weights' change after the run. -/
theorem finalD (c : Dev nD) : (dats m 0 c).arrAt 20 cfg0.N = fun i => delta (m ((c : Thread nD τ).loc main_arg0) i) (G m c i)
    (m ((c : Thread nD τ).loc main_arg1) i) (m ((c : Thread nD τ).loc main_arg2) i) := by
  refine (dats m 0 c).arrAt_eq_of_covers 20 _ (by decide +kernel) fun t hf y => ?_
  blk_simp
  rw [after0_20]
  have hy : (y 0).val < 1 := (y 0).isLt
  refine (point m c t y _ ?_ ?_ ?_).delta <;> blk_simp [idx t] <;> simp

/-- The first moments after the run. -/
theorem finalM (c : Dev nD) : (dats m 0 c).arrAt 21 cfg0.N = fun i => mom (G m c i) (m ((c : Thread nD τ).loc main_arg1) i) := by
  refine (dats m 0 c).arrAt_eq_of_covers 21 _ (by decide +kernel) fun t hf y => ?_
  blk_simp
  rw [after0_21]
  have hy : (y 0).val < 1 := (y 0).isLt
  refine (point m c t y _ ?_ ?_ ?_).mom <;> blk_simp [idx t] <;> simp

/-- The second moments after the run. -/
theorem finalV (c : Dev nD) : (dats m 0 c).arrAt 22 cfg0.N = fun i => var (G m c i) (m ((c : Thread nD τ).loc main_arg2) i) := by
  refine (dats m 0 c).arrAt_eq_of_covers 22 _ (by decide +kernel) fun t hf y => ?_
  blk_simp
  rw [after0_22]
  have hy : (y 0).val < 1 := (y 0).isLt
  refine (point m c t y _ ?_ ?_ ?_).var <;> blk_simp [idx t] <;> simp

end Cert.Kernel18Ideal.Value

namespace Cert.Reference18Ideal.Adam

open Idealize.ShloMosaic Idealize.ShloMosaic.TcCoe
open Cert.Reference18Ideal Cert.Reference18Ideal.Gen Cert.Reference18Ideal.Read Cert.Adam

/-- The reference's gradient. -/
theorem v12 (o0 o1 o2 o3 : (⟨S128x1024, .f32⟩ : BufTy).Contents (Elt Ideal)) (r0 r1 r2 r3 : (⟨S3x128x1024, .bf16⟩ : BufTy).Contents (Elt Ideal)) :
    val_main_v12 (F := Ideal) o0 o1 o2 o3 r0 r1 r2 r3 = shards ![o0, o1, o2, o3] ![r0, r1, r2, r3] := by
  funext i
  unfold shards
  pointwise [val_main_v12, val_main_v11, val_main_v10, val_main_v9, val_main_v8, val_main_v7, val_main_v6, val_main_v5, val_main_v4, val_main_v3, val_main_v2, val_main_v1, val_main_v0, val_main_cst]
  exact congrArg₂ (· + ·) (ladder (i 0) o0 o1 o2 o3 _) (Finset.sum_congr (M := EReal) rfl fun j _ => ladder (i 0) r0 r1 r2 r3 _)

/-- The reference's first moment, of any gradient. -/
theorem v17 (a : (⟨S4x128x1024, .f32⟩ : BufTy).Contents (Elt Ideal))
    (o0 o1 o2 o3 : (⟨S128x1024, .f32⟩ : BufTy).Contents (Elt Ideal)) (r0 r1 r2 r3 : (⟨S3x128x1024, .bf16⟩ : BufTy).Contents (Elt Ideal)) :
    val_main_v17 (F := Ideal) a o0 o1 o2 o3 r0 r1 r2 r3 = fun i => mom (shards ![o0, o1, o2, o3] ![r0, r1, r2, r3] i) (a i) := by
  funext i
  rw [← v12]
  pointwise [val_main_v17, val_main_v16, val_main_v15, val_main_v14, val_main_v13, val_main_cst_0, val_main_cst_1, mom]

/-- The reference's second moment. -/
theorem v23 (b : (⟨S4x128x1024, .f32⟩ : BufTy).Contents (Elt Ideal))
    (o0 o1 o2 o3 : (⟨S128x1024, .f32⟩ : BufTy).Contents (Elt Ideal)) (r0 r1 r2 r3 : (⟨S3x128x1024, .bf16⟩ : BufTy).Contents (Elt Ideal)) :
    val_main_v23 (F := Ideal) b o0 o1 o2 o3 r0 r1 r2 r3 = fun i => var (shards ![o0, o1, o2, o3] ![r0, r1, r2, r3] i) (b i) := by
  funext i
  rw [← v12]
  pointwise [val_main_v23, val_main_v22, val_main_v21, val_main_v20, val_main_v19, val_main_v18, val_main_cst_2, val_main_cst_3, var]

/-- The reference's change of the weight. -/
theorem v36 (w a b : (⟨S4x128x1024, .f32⟩ : BufTy).Contents (Elt Ideal))
    (o0 o1 o2 o3 : (⟨S128x1024, .f32⟩ : BufTy).Contents (Elt Ideal)) (r0 r1 r2 r3 : (⟨S3x128x1024, .bf16⟩ : BufTy).Contents (Elt Ideal)) :
    val_main_v36 (F := Ideal) w a b o0 o1 o2 o3 r0 r1 r2 r3
      = fun i => delta (w i) (shards ![o0, o1, o2, o3] ![r0, r1, r2, r3] i) (a i) (b i) := by
  funext i
  unfold delta
  have em : val_main_v17 (F := Ideal) a o0 o1 o2 o3 r0 r1 r2 r3 i = _ := congrFun (v17 a o0 o1 o2 o3 r0 r1 r2 r3) i
  have ev : val_main_v23 (F := Ideal) b o0 o1 o2 o3 r0 r1 r2 r3 i = _ := congrFun (v23 b o0 o1 o2 o3 r0 r1 r2 r3) i
  rw [← em, ← ev]
  pointwise [val_main_v36, val_main_v35, val_main_v34, val_main_v33, val_main_v32, val_main_v31, val_main_v30, val_main_v29, val_main_v28,
    val_main_v27, val_main_v26, val_main_v25, val_main_v24, val_main_cst_4, val_main_cst_5, val_main_cst_6, val_main_cst_7, val_main_cst_8]

end Cert.Reference18Ideal.Adam
-- ==== Proof.LayersJoin.lean ====
/- The claims about the AdamW update of a divided weight's shards: the frames, and that kernel and reference leave the same. -/
module

public import proofs.«01_k».proof.Defs
public import proofs.«01_k».proof.Proof.RefFrame
public import proofs.«01_k».proof.Proof.Gen.Kernel18.Frame
public import proofs.«01_k».proof.Proof.Gen.Reference18Ideal.Run
public import proofs.«01_k».proof.Proof.AdamLayers

@[expose] public section

noncomputable section

namespace Cert.Proof

open Idealize.ShloMosaic Idealize.SL.Sem

/-- The frame of the update of a divided weight's shards, at the words. -/
theorem frameK18 : Cert.quiescent_Kernel18 := fun m ρ _ => Cert.Kernel18.Gen.frame m ρ

/-- … on the extended reals. -/
theorem frameKI18 : Cert.quiescent_Kernel18Ideal := fun m ρ _ => Cert.Kernel18Ideal.Gen.frame m ρ

set_option maxHeartbeats 1600000 in
/-- The reference's frame. -/
theorem frameRI18 : Cert.quiescent_Reference18Ideal := fun m g _ =>
  frame_of (by decide) (Cert.Reference18Ideal.Value.run m g) fun _ _ h => h.2.2.2.2

set_option maxHeartbeats 3200000 in
set_option maxRecDepth 16384 in
/-- The gradient, the weights' change and the moments of the shards are the reference's. -/
theorem algebraic18 : Cert.algebraic_Kernel18Ideal_Reference18Ideal := by
  pair_intro
  · run_from Cert.Kernel18Ideal.Value.run_blocks m g
  · run_from Cert.Reference18Ideal.Value.run m' g'
    all_goals obtain ⟨e0, e1, e2, e3, e4, e5, e6, e7, e8, e9, e10⟩ := hagree c
    · rw [Cert.Reference18Ideal.Read.val_main_v12_eq]
      try simp only [e3, e4, e5, e6, e7, e8, e9, e10]
      exact (Cert.Reference18Ideal.Adam.v12 _ _ _ _ _ _ _ _).trans (Cert.Kernel18Ideal.Value.finalG m c).symm
    · rw [Cert.Reference18Ideal.Read.val_main_v36_eq]
      try simp only [e0, e1, e2, e3, e4, e5, e6, e7, e8, e9, e10]
      exact (Cert.Reference18Ideal.Adam.v36 _ _ _ _ _ _ _ _ _ _ _).trans (Cert.Kernel18Ideal.Value.finalD m c).symm
    · rw [Cert.Reference18Ideal.Read.val_main_v17_eq]
      try simp only [e1, e3, e4, e5, e6, e7, e8, e9, e10]
      exact (Cert.Reference18Ideal.Adam.v17 _ _ _ _ _ _ _ _ _).trans (Cert.Kernel18Ideal.Value.finalM m c).symm
    · rw [Cert.Reference18Ideal.Read.val_main_v23_eq]
      try simp only [e2, e3, e4, e5, e6, e7, e8, e9, e10]
      exact (Cert.Reference18Ideal.Adam.v23 _ _ _ _ _ _ _ _ _).trans (Cert.Kernel18Ideal.Value.finalV m c).symm

end Cert.Proof

end
-- ==== Proof.LnBwdRef.lean ====
/- The gradient of layer normalisation as the reference computes it, stage by stage, at an index. -/
module

public import proofs.«01_k».proof.Proof.LnBwd
public import proofs.«01_k».proof.Proof.Gen.Reference5Ideal.Read

@[expose] public section

set_option maxRecDepth 16384

noncomputable section

namespace Cert.Reference5Ideal.Ln5

open Idealize.ShloMosaic Idealize.ShloMosaic.TcCoe
open Cert.Reference5Ideal Cert.Reference5Ideal.Gen Cert.Reference5Ideal.Read Cert.Ln

section Row

variable (z : (⟨S8192x1024, .f32⟩ : BufTy).Contents (Elt Ideal))

/-- A row less its mean. -/
theorem v16 (y : S8192x1024.Idx) : val_main_v16 (F := Ideal) z y = cent (fun k => z (ix2 (y 0) k)) (y 1) := by
  unfold cent mean
  pointwise [val_main_v16, val_main_v15, val_main_v5, val_main_v4, val_main_v3, val_main_v2, val_main_cst_0, val_main_cst_1]

/-- The variance of a row, with the small constant. -/
theorem v18 (y : S8192x1.Idx) : val_main_v18 (F := Ideal) z y = den (fun k => z (ix2 (y 0) k)) := by
  have h : ∀ k, val_main_v7 (F := Ideal) z (ix2 (y 0) k) = cent (fun k => z (ix2 (y 0) k)) k := fun k => v16 z (ix2 (y 0) k)
  unfold den mean
  rw [← funext fun k => congrArg₂ (· * ·) (h k) (h k)]
  pointwise [val_main_v18, val_main_v17, val_main_v14, val_main_v13, val_main_v12, val_main_v11, val_main_v8, val_main_cst_3, val_main_cst_4,
    val_main_cst_5]

/-- The reciprocal standard deviation. -/
theorem v19 (y : S8192x1.Idx) : val_main_v19 (F := Ideal) z y = rs (fun k => z (ix2 (y 0) k)) := by
  refine Eq.trans ?_ (congrArg Ideal.rsqrt (v18 z y))
  pointwise [val_main_v19]

/-- The normalised row. -/
theorem v24 (y : S8192x1024.Idx) : val_main_v24 (F := Ideal) z y = xhat (fun k => z (ix2 (y 0) k)) (y 1) := by
  refine Eq.trans ?_ (congrArg₂ (· * ·) (v16 z y) (v19 z (ix2 (y 0) 0)))
  pointwise [val_main_v24, val_main_v23]

/-- The factor of the variance's gradient. -/
theorem v22 (y : S8192x1.Idx) : val_main_v22 (F := Ideal) z y
    = Ideal.ofBits .f32 0xBF000000#32 * Ideal.div (rs fun k => z (ix2 (y 0) k)) (den fun k => z (ix2 (y 0) k)) := by
  rw [← v19, ← v18]
  pointwise [val_main_v22, val_main_v21, val_main_v20, val_main_cst_6]

/-- Twice the centred row. -/
theorem v10 (y : S8192x1024.Idx) : val_main_v10 (F := Ideal) z y
    = Ideal.ofBits .f32 0x40000000#32 * cent (fun k => z (ix2 (y 0) k)) (y 1) := by
  refine Eq.trans ?_ (congrArg (_ * ·) (v16 z y))
  pointwise [val_main_v10, val_main_v9, val_main_cst_2]
  rfl

end Row

/-- Every copy of the gain is the gain. -/
theorem v26 (g : FVec Ideal S1024 .f32) (y : S8192x1024.Idx) : val_main_v26 (F := Ideal) g y = g (ix1 (y 1)) := by
  pointwise [val_main_v26, val_main_v25, val_main_v0]

section Tail

variable (z u : FVec Ideal S8192x1024 .f32)

/-! From the gradient `u` of the normalised rows: the operations by which the reference comes to the gradient of the rows. -/

/-- The gradient of the factor, times the factor's derivative, over the rows' length. -/
def t56 : FVec Ideal S8192x1 .f32 :=
  Host.divf (F := Ideal) (mulf (shapeCast S8192x1 (Host.reduceAdd (mulf (val_main_v16 (F := Ideal) z) u) (val_main_cst_11 (F := Ideal)) reducesTo_S8192x1024_S8192_d1 h_S_) shapeCasts_S8192_S8192x1)
    (val_main_v22 (F := Ideal) z)) (val_main_v55 (F := Ideal))

/-- The gradient through the square. -/
def t59 : FVec Ideal S8192x1024 .f32 :=
  mulf (F := Ideal) (broadcastInDim S8192x1024 ![0] bcast_S8192_S8192x1024_0 (Host.reduceAdd (t56 z u) (val_main_cst_14 (F := Ideal)) reducesTo_S8192x1_S8192_d1 h_S_))
    (val_main_v10 (F := Ideal) z)

/-- The gradient through the product with the factor. -/
def t50 : FVec Ideal S8192x1024 .f32 := mulf (F := Ideal) u (val_main_v49 (F := Ideal) z)

/-- The gradient through the mean. -/
def t66 : FVec Ideal S8192x1 .f32 :=
  Host.divf (F := Ideal) (addf (shapeCast S8192x1 (Host.reduceAdd (Host.negf (t50 z u)) (val_main_cst_12 (F := Ideal)) reducesTo_S8192x1024_S8192_d1 h_S_) shapeCasts_S8192_S8192x1)
    (shapeCast S8192x1 (Host.reduceAdd (Host.negf (t59 z u)) (val_main_cst_15 (F := Ideal)) reducesTo_S8192x1024_S8192_d1 h_S_) shapeCasts_S8192_S8192x1)) (val_main_v65 (F := Ideal))

/-- The gradient of the rows. -/
def t69 : FVec Ideal S8192x1024 .f32 :=
  addf (F := Ideal) (addf (t50 z u) (t59 z u)) (broadcastInDim S8192x1024 ![0] bcast_S8192_S8192x1024_0
    (Host.reduceAdd (t66 z u) (val_main_cst_17 (F := Ideal)) reducesTo_S8192x1_S8192_d1 h_S_))

/-- The gradient through the variance, at a row. -/
theorem t56_eq (y : S8192x1.Idx) : t56 z u y = dvar (fun k => z (ix2 (y 0) k)) (fun k => u (ix2 (y 0) k)) := by
  unfold dvar
  refine Eq.trans ?_ (congrArg (Ideal.div · _) (congrArg₂ (· * ·) (Finset.sum_congr rfl fun k _ => congrArg (· * _) (v16 z (ix2 (y 0) k)))
    (v22 z y)))
  pointwise [t56, val_main_v55, val_main_cst_11, val_main_cst_13]

/-- … and through the square. -/
theorem t59_eq (y : S8192x1024.Idx) : t59 z u y = dsq (fun k => z (ix2 (y 0) k)) (fun k => u (ix2 (y 0) k)) (y 1) := by
  unfold dsq
  refine Eq.trans ?_ (congrArg₂ (· * ·) (t56_eq z u (ix2 (y 0) 0)) (v10 z y))
  pointwise [t59, val_main_cst_14]
  rw [Fin.sum_univ_one]

/-- The product with the factor. -/
theorem t50_eq (y : S8192x1024.Idx) : t50 z u y = u y * rs (fun k => z (ix2 (y 0) k)) := by
  refine Eq.trans ?_ (congrArg (u y * ·) (v19 z (ix2 (y 0) 0)))
  pointwise [t50, val_main_v49]

/-- The gradient of a row by differentiation. -/
theorem t69_eq (y : S8192x1024.Idx) : t69 z u y = dlnD (fun k => z (ix2 (y 0) k)) (fun k => u (ix2 (y 0) k)) (y 1) := by
  unfold dlnD
  refine Eq.trans ?_ (congrArg₂ (· + ·) (congrArg₂ (· + ·) (t50_eq z u (ix2 (y 0) (y 1))) (t59_eq z u y)) (congrArg (Ideal.div · _)
    (congrArg₂ (· + ·) (Finset.sum_congr rfl fun k _ => congrArg (- ·) (t50_eq z u (ix2 (y 0) k)))
      (Finset.sum_congr rfl fun k _ => congrArg (- ·) (t59_eq z u (ix2 (y 0) k))))))
  pointwise [t69, t66, val_main_v65, val_main_cst_12, val_main_cst_15, val_main_cst_16, val_main_cst_17]
  rw [Fin.sum_univ_one]

/-- The rows' sum, folded by eight. -/
def tfold : FVec Ideal S8x1024 .f32 :=
  Host.reduceAdd (F := Ideal) (shapeCast S1024x8x1024 u shapeCasts_S8192x1024_S1024x8x1024) (val_main_cst_9 (F := Ideal)) reducesTo_S1024x8x1024_S8x1024_d0 h_S_

/-- … at an index. -/
theorem tfold_eq (y : S8x1024.Idx) : tfold u y = fold8 (fun r => u (ix2 r (y 1))) (y 0) := by
  unfold fold8
  pointwise [tfold, val_main_cst_9]

/-- A reference's gradient of the normalised values, of a product of any width, folded by eight: the bias's gradient. -/
theorem bias {d : ℕ} (w : (⟨2, ![1024, d]⟩ : Shape).Idx → EReal) (dy : FVec Ideal S8192x1024 .f32) (a : (⟨2, ![8192, d]⟩ : Shape).Idx → EReal)
    (hu : ∀ y : S8192x1024.Idx, u y = dx dy a w (y 0) (y 1)) (y : S8x1024.Idx) :
    tfold u y = fold8 (fun r => dx dy a w r (y 1)) (y 0) :=
  (tfold_eq u y).trans (congrArg (fold8 · (y 0)) (funext fun r => hu (ix2 r (y 1))))

/-- … times the normalised values: the gain's gradient. -/
theorem gain {d : ℕ} (w : (⟨2, ![1024, d]⟩ : Shape).Idx → EReal) (dy : FVec Ideal S8192x1024 .f32) (a : (⟨2, ![8192, d]⟩ : Shape).Idx → EReal)
    (hu : ∀ y : S8192x1024.Idx, u y = dx dy a w (y 0) (y 1)) (y : S8x1024.Idx) :
    tfold (mulf (F := Ideal) (val_main_v24 (F := Ideal) z) u) y
    = fold8 (fun r => dx dy a w r (y 1) * xhat (fun k => z (ix2 r k)) (y 1)) (y 0) :=
  (tfold_eq _ y).trans (congrArg (fold8 · (y 0)) (funext fun r =>
    (mul_comm _ _).trans (congrArg₂ (· * ·) (hu (ix2 r (y 1))) (v24 z (ix2 r (y 1))))))

/-- … times the gain, through the normalisation: the gradient of the rows, where that product is finite. -/
theorem rows {d : ℕ} (g : FVec Ideal S1024 .f32) (w : (⟨2, ![1024, d]⟩ : Shape).Idx → EReal) (dy : FVec Ideal S8192x1024 .f32)
    (a : (⟨2, ![8192, d]⟩ : Shape).Idx → EReal) (hu : ∀ y : S8192x1024.Idx, u y = dx dy a w (y 0) (y 1))
    (hg : ∀ i k, dx dy a w i k * g (ix1 k) ≠ ⊤ ∧ dx dy a w i k * g (ix1 k) ≠ ⊥) (y : S8192x1024.Idx) :
    t69 z (mulf (F := Ideal) u (val_main_v26 (F := Ideal) g)) y
    = dln (xhat fun k => z (ix2 (y 0) k)) (rs fun k => z (ix2 (y 0) k)) (fun k => dx dy a w (y 0) k * g (ix1 k)) (y 1) :=
  (t69_eq z _ y).trans ((congrArg (dlnD _ · _) (funext fun k => congrArg₂ (· * ·) (hu (ix2 (y 0) k)) (v26 g (ix2 (y 0) k)))).trans
    (dln_eq _ _ (hg (y 0)) _))

end Tail

section Call

variable (z : (⟨S8192x1024, .f32⟩ : BufTy).Contents (Elt Ideal)) (g : (⟨S1024, .f32⟩ : BufTy).Contents (Elt Ideal))
  (w : (⟨S1024x4096, .bf16⟩ : BufTy).Contents (Elt Ideal)) (d : (⟨S8192x1024, .f32⟩ : BufTy).Contents (Elt Ideal))
  (a : (⟨S8192x4096, .bf16⟩ : BufTy).Contents (Elt Ideal))

/-- The gradient that reaches the normalised values. -/
theorem v39 (y : S8192x1024.Idx) : val_main_v39 (F := Ideal) w d a y = dx d a w (y 0) (y 1) := by
  unfold dx
  rw [add_comm]
  pointwise [val_main_v39, val_main_v38, val_main_v37, val_main_v36, val_main_v35, val_main_v33, val_main_cst_8]

/-- The bias's gradient. -/
theorem v41 (y : S8x1024.Idx) : val_main_v41 (F := Ideal) w d a y = fold8 (fun r => dx d a w r (y 1)) (y 0) :=
  bias _ w d a (v39 w d a) y

/-- The gain's gradient. -/
theorem v45 (y : S8x1024.Idx) : val_main_v45 (F := Ideal) z w d a y
    = fold8 (fun r => dx d a w r (y 1) * xhat (fun k => z (ix2 r k)) (y 1)) (y 0) :=
  gain z _ w d a (v39 w d a) y

/-- The gradient of the rows. -/
theorem v69 (hu : ∀ i k, dx d a w i k * g (ix1 k) ≠ ⊤ ∧ dx d a w i k * g (ix1 k) ≠ ⊥) (y : S8192x1024.Idx) :
    val_main_v69 (F := Ideal) z g w d a y
    = dln (xhat fun k => z (ix2 (y 0) k)) (rs fun k => z (ix2 (y 0) k)) (fun k => dx d a w (y 0) k * g (ix1 k)) (y 1) :=
  rows z _ g w d a (v39 w d a) hu y

/-- … and that times the matrix that follows, transposed. -/
theorem v74 (wo : (⟨S1024x1024, .bf16⟩ : BufTy).Contents (Elt Ideal))
    (hu : ∀ i k, dx d a w i k * g (ix1 k) ≠ ⊤ ∧ dx d a w i k * g (ix1 k) ≠ ⊥) (y : S8192x1024.Idx) :
    val_main_v74 (F := Ideal) z g w wo d a y
    = ∑ l : Fin 1024, dln (xhat fun k => z (ix2 (y 0) k)) (rs fun k => z (ix2 (y 0) k)) (fun k => dx d a w (y 0) k * g (ix1 k)) l * wo (ix2 (y 1) l) := by
  refine Eq.trans ?_ (Finset.sum_congr rfl fun l _ => congrArg (· * _) (v69 z g w d a hu (ix2 (y 0) l)))
  pointwise [val_main_v74, val_main_v73, val_main_v71]

end Call

end Cert.Reference5Ideal.Ln5

end
-- ==== Proof.LnBlocks.lean ====
/- The gradient through a product, a scaled residual and a layer normalisation, by blocks of 512 rows, for a product of any width. -/
module

public import proofs.«01_k».proof.Proof.LnBwd

@[expose] public section

set_option maxRecDepth 16384

noncomputable section

namespace Cert.Ln

open Idealize.ShloMosaic

/-- The arrays of such a call (the rows `z`, the gain `g`, the product's matrix `w`, the gradients `dy` and `a` that arrive), the blocks that
    its grid points read, and that these are the arrays' rows: `X` and `R` hold the normalised rows and the reciprocal deviations. -/
structure Blocks (N d : ℕ) where
  z : (⟨2, ![8192, 1024]⟩ : Shape).Idx → EReal
  g : (⟨1, ![1024]⟩ : Shape).Idx → EReal
  w : (⟨2, ![1024, d]⟩ : Shape).Idx → EReal
  dy : (⟨2, ![8192, 1024]⟩ : Shape).Idx → EReal
  a : (⟨2, ![8192, d]⟩ : Shape).Idx → EReal
  D : Fin N → (⟨2, ![512, 1024]⟩ : Shape).Idx → EReal
  A : Fin N → (⟨2, ![512, d]⟩ : Shape).Idx → EReal
  W : Fin N → (⟨2, ![1024, d]⟩ : Shape).Idx → EReal
  X : Fin N → (⟨2, ![512, 1024]⟩ : Shape).Idx → EReal
  R : Fin N → (⟨2, ![512, 1]⟩ : Shape).Idx → EReal
  G : Fin N → (⟨2, ![1, 1024]⟩ : Shape).Idx → EReal
  hD : ∀ t (r : Fin 512) (i : Fin 8192), i.val = 512 * t.val + r.val → ∀ k, D t (ix2 r k) = dy (ix2 i k)
  hA : ∀ t (r : Fin 512) (i : Fin 8192), i.val = 512 * t.val + r.val → ∀ l, A t (ix2 r l) = a (ix2 i l)
  hW : ∀ t k l, W t (ix2 k l) = w (ix2 k l)
  hX : ∀ t (r : Fin 512) (i : Fin 8192), i.val = 512 * t.val + r.val → ∀ k, X t (ix2 r k) = xhat (fun k => z (ix2 i k)) k
  hR : ∀ t (r : Fin 512) (i : Fin 8192), i.val = 512 * t.val + r.val → R t (ix2 r 0) = rs (fun k => z (ix2 i k))
  hG : ∀ t k, G t (ix2 0 k) = g (ix1 k)

namespace Blocks

variable {N d : ℕ} (B : Blocks N d)

/-- The gradient that reaches the normalised values. -/
def dn (i : Fin 8192) (k : Fin 1024) : EReal := dx B.dy B.a B.w i k

/-- … and the normalised values. -/
def nx (i : Fin 8192) (k : Fin 1024) : EReal := xhat (fun k => B.z (ix2 i k)) k

/-- The gradient of the rows before normalisation. -/
def dz (i : Fin 8192) (k : Fin 1024) : EReal := dln (B.nx i) (rs fun k => B.z (ix2 i k)) (fun k => B.dn i k * B.g (ix1 k)) k

/-- A block's row of the gradient that reaches the normalised values is the array's. -/
theorem row (t : Fin N) (r : Fin 512) (i : Fin 8192) (h : i.val = 512 * t.val + r.val) (k : Fin 1024) :
    dx (B.D t) (B.A t) (B.W t) r k = B.dn i k :=
  congrArg₂ (· + ·) (congrArg _ (B.hD t r i h k)) (Finset.sum_congr rfl fun l _ => congrArg₂ (· * ·) (B.hA t r i h l) (B.hW t k l))

/-- A block's row of the gradient of the rows is the array's. -/
theorem dzrow (t : Fin N) (r : Fin 512) (i : Fin 8192) (h : i.val = 512 * t.val + r.val) (u : Fin 1024 → EReal)
    (hu : ∀ l, u l = dx (B.D t) (B.A t) (B.W t) r l * B.G t (ix2 0 l)) (k : Fin 1024) :
    dln (fun k => B.X t (ix2 r k)) (B.R t (ix2 r 0)) u k = B.dz i k :=
  dln_congr (B.hX t r i h) (B.hR t r i h) (fun l => (hu l).trans (congrArg₂ (· * ·) (B.row t r i h l) (B.hG t l))) k

/-- Points that begin from zero and each add their rows times the normalised rows leave the gain's gradient. -/
theorem gain (hN : N = 16) (f : (k : ℕ) → k < N → (⟨2, ![8, 1024]⟩ : Shape).Idx → EReal)
    (h0 : ∀ t : Fin N, t.val % 16 = 0 → ∀ i : (⟨2, ![8, 1024]⟩ : Shape).Idx, f t.val t.isLt i = 0 + ∑ j : Fin 64,
      dx (B.D t) (B.A t) (B.W t) ⟨j.val * 8 + (i 0).val, by have h : (i 0).val < 8 := (i 0).isLt; omega⟩ (i 1)
        * B.X t (ix2 ⟨j.val * 8 + (i 0).val, by have h : (i 0).val < 8 := (i 0).isLt; omega⟩ (i 1)))
    (hs : ∀ t : Fin N, ¬t.val % 16 = 0 → ∀ i : (⟨2, ![8, 1024]⟩ : Shape).Idx, f t.val t.isLt i
      = f (t.val - 1) (Nat.lt_of_le_of_lt (Nat.sub_le _ _) t.isLt) i + ∑ j : Fin 64,
      dx (B.D t) (B.A t) (B.W t) ⟨j.val * 8 + (i 0).val, by have h : (i 0).val < 8 := (i 0).isLt; omega⟩ (i 1)
        * B.X t (ix2 ⟨j.val * 8 + (i 0).val, by have h : (i 0).val < 8 := (i 0).isLt; omega⟩ (i 1)))
    (t : Fin N) (hf : t.val % 16 = 15) (y : (⟨2, ![8, 1024]⟩ : Shape).Idx) (z0 : Fin 8) (z1 : Fin 1024) (e0 : z0.val = (y 0).val)
    (e1 : z1.val = (y 1).val) : f t.val t.isLt y = fold8 (fun r => B.dn r z1 * B.nx r z1) z0 :=
  fold f (fun t r k => dx (B.D t) (B.A t) (B.W t) r k * B.X t (ix2 r k)) (fun r k => B.dn r k * B.nx r k) hN h0 hs
    (fun t r k => congrArg₂ (· * ·) (B.row t r _ rfl k) (B.hX t r _ rfl k)) t hf y z0 z1 e0 e1

/-- … and those that add their rows, the bias's. -/
theorem bias (hN : N = 16) (f : (k : ℕ) → k < N → (⟨2, ![8, 1024]⟩ : Shape).Idx → EReal)
    (h0 : ∀ t : Fin N, t.val % 16 = 0 → ∀ i : (⟨2, ![8, 1024]⟩ : Shape).Idx, f t.val t.isLt i = 0 + ∑ j : Fin 64,
      dx (B.D t) (B.A t) (B.W t) ⟨j.val * 8 + (i 0).val, by have h : (i 0).val < 8 := (i 0).isLt; omega⟩ (i 1))
    (hs : ∀ t : Fin N, ¬t.val % 16 = 0 → ∀ i : (⟨2, ![8, 1024]⟩ : Shape).Idx, f t.val t.isLt i
      = f (t.val - 1) (Nat.lt_of_le_of_lt (Nat.sub_le _ _) t.isLt) i + ∑ j : Fin 64,
      dx (B.D t) (B.A t) (B.W t) ⟨j.val * 8 + (i 0).val, by have h : (i 0).val < 8 := (i 0).isLt; omega⟩ (i 1))
    (t : Fin N) (hf : t.val % 16 = 15) (y : (⟨2, ![8, 1024]⟩ : Shape).Idx) (z0 : Fin 8) (z1 : Fin 1024) (e0 : z0.val = (y 0).val)
    (e1 : z1.val = (y 1).val) : f t.val t.isLt y = fold8 (fun r => B.dn r z1) z0 :=
  fold f (fun t r k => dx (B.D t) (B.A t) (B.W t) r k) B.dn hN h0 hs (fun t r k => B.row t r _ rfl k) t hf y z0 z1 e0 e1

end Blocks

end Cert.Ln

end
-- ==== Proof.Ff1Bwd.lean ====
/- The gradient through the first feed-forward product, the residual and the second layer normalisation: what the kernel's blocks hold. -/
module

public import proofs.«01_k».proof.Proof.LnBwdRef
public import proofs.«01_k».proof.Proof.LnBlocks
public import proofs.«01_k».proof.Proof.Gen.Kernel5Ideal.Value
public import Idealize.ShloMosaic.Lib.Pipeline.ReadBack

@[expose] public section

set_option maxRecDepth 16384

noncomputable section

namespace Cert.Kernel5Ideal.Value

open Idealize.ShloMosaic Idealize.ShloMosaic.TcCoe Idealize.SL.Sem
open Cert.Kernel5Ideal Cert.Kernel5Ideal.Gen Cert.Ln
open Idealize.ShloMosaic.Pipeline (Dat)

/-- The whole block's corner. -/
theorem corner : (![0, 0] : Fin 2 → ℕ) = fun _ => 0 := by decide

/-- The gradient of the row before its normalisation. -/
theorem pay1 (x u : Vec Ideal S512x1024 .f32) (r : Vec Ideal S512x1 .f32) (y : S512x1024.Idx) : k0_pay1 x u r y
    = dln (fun k => x (ix2 (y 0) k)) (r (ix2 (y 0) 0)) (fun k => u (ix2 (y 0) k)) (y 1) := by
  unfold dln mean
  pointwise [k0_pay1]

/-- … and that times the matrix that follows, transposed. -/
theorem pay2 (x u : Vec Ideal S512x1024 .f32) (r : Vec Ideal S512x1 .f32) (w : Vec Ideal S1024x1024 .bf16) (y : S512x1024.Idx) :
    k0_pay2 x u r w y = ∑ l : Fin 1024, dln (fun k => x (ix2 (y 0) k)) (r (ix2 (y 0) 0)) (fun k => u (ix2 (y 0) k)) l * w (ix2 (y 1) l) := by
  refine Eq.trans ?_ (Finset.sum_congr rfl fun l _ => congrArg (· * _) (pay1 x u r (ix2 (y 0) l)))
  pointwise [k0_pay2]

/-- The sums over rows start from zero. -/
theorem pay3 (y : S8x1024.Idx) : (show EReal from k0_pay3 (F := Ideal) y) = 0 := by
  pointwise! [k0_pay3]

theorem pay4 (y : S8x1024.Idx) : (show EReal from k0_pay4 (F := Ideal) y) = 0 := by
  pointwise! [k0_pay4]

/-- The normalised values are taken as they are. -/
theorem pay6 (x : Vec Ideal S512x1024 .f32) : k0_pay6 x = x := by
  funext y
  pointwise [k0_pay6]

/-! The operations that do not depend on the product's width, from the gradient `D` of the normalised values. -/

section Common

variable (D : FVec Ideal S512x1024 .f32)

/-- A block's rows, folded by eight and added to what was there. -/
def addFold (s : FVec Ideal S8x1024 .f32) : FVec Ideal S8x1024 .f32 :=
  addf (shapeCast S8x1024 s shapeCasts_S8x1024_S8x1024) (multiReduction .add [0] S8x1024
    (shapeCast S64x8x1024 D shapeCasts_S512x1024_S64x8x1024) 0x00000000#32 reduces_S64x8x1024_S8x1024 (.inl rfl) rfl)

/-- … at an index. -/
theorem addFold_eq (s : FVec Ideal S8x1024 .f32) (y : S8x1024.Idx) : addFold D s y
    = s y + ∑ j : Fin 64, D (ix2 ⟨j.val * 8 + (y 0).val, by have h : (y 0).val < 8 := (y 0).isLt; omega⟩ (y 1)) := by
  pointwise [addFold]

/-- A block's rows times the gain. -/
def mulGain (g : FVec Ideal S1x1024 .f32) : FVec Ideal S512x1024 .f32 :=
  mulf D (broadcastTo S512x1024 (shapeCast S1x1024 g shapeCasts_S1x1024_S1x1024) broadcasts_S1x1024_S512x1024)

/-- … at an index. -/
theorem mulGain_eq (g : FVec Ideal S1x1024 .f32) (y : S512x1024.Idx) : mulGain D g y = D y * g (ix2 0 (y 1)) := by
  pointwise [mulGain]

section Dx

variable {d : ℕ} (z : Vec Ideal S512x1024 .f32) (a : (⟨2, ![512, d]⟩ : Shape).Idx → EReal) (w : (⟨2, ![1024, d]⟩ : Shape).Idx → EReal)
  (hD : ∀ y : S512x1024.Idx, D y = dx z a w (y 0) (y 1))

include hD

/-- The gradient of the normalised values, of a product of any width, times the gain. -/
theorem mulGain_dx (g : Vec Ideal S1x1024 .f32) (y : S512x1024.Idx) : mulGain D g y = dx z a w (y 0) (y 1) * g (ix2 0 (y 1)) :=
  (mulGain_eq D g y).trans (congrArg (· * _) (hD y))

/-- What a point adds to the bias's gradient. -/
theorem addFold_dx (s : Vec Ideal S8x1024 .f32) (y : S8x1024.Idx) : addFold D s y
    = s y + ∑ j : Fin 64, dx z a w ⟨j.val * 8 + (y 0).val, by have h : (y 0).val < 8 := (y 0).isLt; omega⟩ (y 1) :=
  (addFold_eq D s y).trans (congrArg (s y + ·) (Finset.sum_congr rfl fun j _ => hD (ix2 _ (y 1))))

/-- What a point adds to the gain's gradient. -/
theorem addFold_mul (x : Vec Ideal S512x1024 .f32) (s : Vec Ideal S8x1024 .f32) (y : S8x1024.Idx) : addFold (mulf D (k0_pay6 x)) s y
    = s y + ∑ j : Fin 64, dx z a w ⟨j.val * 8 + (y 0).val, by have h : (y 0).val < 8 := (y 0).isLt; omega⟩ (y 1)
      * x (ix2 ⟨j.val * 8 + (y 0).val, by have h : (y 0).val < 8 := (y 0).isLt; omega⟩ (y 1)) :=
  (addFold_eq _ s y).trans (congrArg (s y + ·) (Finset.sum_congr rfl fun j _ =>
    congrArg₂ (· * ·) (hD (ix2 _ (y 1))) (congrFun (pay6 x) _)))

end Dx

end Common

/-- The gradient that reaches the normalised values. -/
theorem pay5 (z : Vec Ideal S512x1024 .f32) (a : Vec Ideal S512x4096 .bf16) (w : Vec Ideal S1024x4096 .bf16) (y : S512x1024.Idx) :
    k0_pay5 z a w y = dx z a w (y 0) (y 1) := by
  unfold dx
  pointwise [k0_pay5]

variable (m : (ℓ : Loc nD τ sig) → Buf (Elt Ideal) ℓ)

/-- The block indices of the windows at a grid point. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![0, 0] ∧ win0_6.index t = ![0, 0] ∧
    win0_7.index t = ![t.val, 0] ∧ win0_8.index t = ![0, 0] ∧ win0_9.index t = ![0, 0] ∧ win0_10.index t = ![t.val, 0] :=
  (by decide +kernel : ∀ t : Fin grid0.N, _)

/-- There are sixteen grid points. -/
theorem lt16 (t : Fin cfg0.N) : t.val < 16 := lt_of_lt_of_eq t.isLt (show cfg0.N = 16 from N_0)

/-- A point's rows of the gradient. -/
theorem out7 (c : Dev nD) (t : Fin cfg0.N) : (outsAt0 m c t.val t.isLt).1
    = k0_pay1 (iblk m c 3 t) (k0_pay9 (iblk m c 0 t) (iblk m c 1 t) (iblk m c 2 t) (iblk m c 5 t)) (iblk m c 4 t) := by
  by_cases h0 : t.val % 16 = 0
  · rw [outsAt0_A m c t h0]; frame_out; rw [pay6]
  · rw [outsAt0_B m c t h0]; frame_out; rw [pay6]

/-- The gain's gradient after the first point. -/
theorem out8_A (c : Dev nD) (t : Fin cfg0.N) (h0 : t.val % 16 = 0) : (outsAt0 m c t.val t.isLt).2.1
    = k0_pay7 (iblk m c 0 t) (iblk m c 1 t) (iblk m c 2 t) (iblk m c 3 t) (k0_pay3 (F := Ideal)) := by
  rw [outsAt0_A m c t h0]
  frame_open
  simp (disch := decide) only [↓ View.readCov_skip, ↓ View.readCov_cons_toLoadRect, ↓ View.readCov_fill]
  frame_out

/-- … and after a later point. -/
theorem out8_B (c : Dev nD) (t : Fin cfg0.N) (h0 : ¬t.val % 16 = 0) : (outsAt0 m c t.val t.isLt).2.1
    = k0_pay7 (iblk m c 0 t) (iblk m c 1 t) (iblk m c 2 t) (iblk m c 3 t) (outsAt0 m c (t.val - 1) (Nat.lt_of_le_of_lt (Nat.sub_le _ _) t.isLt)).2.1 := by
  rw [outsAt0_B m c t h0]; frame_out

/-- The bias's gradient after the first point. -/
theorem out9_A (c : Dev nD) (t : Fin cfg0.N) (h0 : t.val % 16 = 0) : (outsAt0 m c t.val t.isLt).2.2.1
    = k0_pay8 (iblk m c 0 t) (iblk m c 1 t) (iblk m c 2 t) (k0_pay4 (F := Ideal)) := by
  rw [outsAt0_A m c t h0]
  frame_open
  simp (disch := decide) only [↓ View.readCov_skip, ↓ View.readCov_cons_toLoadRect, ↓ View.readCov_fill]
  frame_out

/-- … and after a later point. -/
theorem out9_B (c : Dev nD) (t : Fin cfg0.N) (h0 : ¬t.val % 16 = 0) : (outsAt0 m c t.val t.isLt).2.2.1
    = k0_pay8 (iblk m c 0 t) (iblk m c 1 t) (iblk m c 2 t) (outsAt0 m c (t.val - 1) (Nat.lt_of_le_of_lt (Nat.sub_le _ _) t.isLt)).2.2.1 := by
  rw [outsAt0_B m c t h0]; frame_out

/-- A point's rows of the product that follows. -/
theorem out10 (c : Dev nD) (t : Fin cfg0.N) : (outsAt0 m c t.val t.isLt).2.2.2
    = k0_pay2 (iblk m c 3 t) (k0_pay9 (iblk m c 0 t) (iblk m c 1 t) (iblk m c 2 t) (iblk m c 5 t)) (iblk m c 4 t) (iblk m c 6 t) := by
  by_cases h0 : t.val % 16 = 0
  · rw [outsAt0_A m c t h0]; frame_out; rw [pay6]
  · rw [outsAt0_B m c t h0]; frame_out; rw [pay6]

/-- The normalised rows as the launch finds them. -/
theorem vxhat (c : Dev nD) : V m c main_v17 = Cert.Reference5Ideal.Read.val_main_v24 (F := Ideal) (m ((c : Thread nD τ).loc main_arg0)) := by
  unfold V; after_results; try rfl

/-- The reciprocal deviations as the launch finds them. -/
theorem vrstd (c : Dev nD) : V m c main_v13 = Cert.Reference5Ideal.Read.val_main_v19 (F := Ideal) (m ((c : Thread nD τ).loc main_arg0)) := by
  unfold V; after_results; try rfl

/-- The gain as the launch finds it. -/
theorem vgain (c : Dev nD) : V m c main_v18 = shapeCast S1x1024 (m ((c : Thread nD τ).loc main_arg1)) shapeCasts_S1024_S1x1024 := by
  unfold V; after_results; try rfl

/-- A block's normalised row is the array's. -/
theorem xrow (c : Dev nD) (t : Fin cfg0.N) (r : Fin 512) (i : Fin 8192) (h : i.val = 512 * t.val + r.val) (k : Fin 1024) :
    iblk m c 3 t (ix2 r k) = xhat (fun k => m ((c : Thread nD τ).loc main_arg0) (ix2 i k)) k := by
  have e : iblk m c 3 t (ix2 r k) = V m c main_v17 (ix2 i k) := by blk_ext [iblk, idx t]
  rw [e, vxhat]
  exact Cert.Reference5Ideal.Ln5.v24 _ (ix2 i k)

/-- A block's reciprocal deviation is the array's. -/
theorem rrow (c : Dev nD) (t : Fin cfg0.N) (r : Fin 512) (i : Fin 8192) (h : i.val = 512 * t.val + r.val) :
    iblk m c 4 t (ix2 r 0) = rs (fun k => m ((c : Thread nD τ).loc main_arg0) (ix2 i k)) := by
  have e : iblk m c 4 t (ix2 r 0) = V m c main_v13 (ix2 i 0) := by blk_ext [iblk, idx t]
  rw [e, vrstd]
  exact Cert.Reference5Ideal.Ln5.v19 _ (ix2 i 0)

/-- The gain's row. -/
theorem grow (c : Dev nD) (t : Fin cfg0.N) (k : Fin 1024) : iblk m c 5 t (ix2 0 k) = m ((c : Thread nD τ).loc main_arg1) (ix1 k) := by
  have e : iblk m c 5 t (ix2 0 k) = V m c main_v18 (ix2 0 k) := by blk_ext [iblk, idx t]
  rw [e, vgain]
  pointwise

set_option maxHeartbeats 1600000 in
/-- The call's arrays and blocks. -/
def B (c : Dev nD) : Blocks cfg0.N 4096 where
  z := m ((c : Thread nD τ).loc main_arg0)
  g := m ((c : Thread nD τ).loc main_arg1)
  w := m ((c : Thread nD τ).loc main_arg2)
  dy := m ((c : Thread nD τ).loc main_arg4)
  a := m ((c : Thread nD τ).loc main_arg5)
  D := iblk m c 0
  A := iblk m c 1
  W := iblk m c 2
  X := iblk m c 3
  R := iblk m c 4
  G := iblk m c 5
  hD t r i h k := by blk_ext [iblk, V, idx t]
  hA t r i h l := by blk_ext [iblk, V, idx t]
  hW t k l := by blk_ext [iblk, V, idx t]
  hX := xrow m c
  hR := rrow m c
  hG := grow m c

/-- The gradient of the rows after the run. -/
theorem final7 (c : Dev nD) : (dats m 0 c).arrAt 7 cfg0.N = fun i : S8192x1024.Idx => (B m c).dz (i 0) (i 1) := by
  refine (dats m 0 c).arrAt_eq_of_covers 7 _ (by decide +kernel) fun t hf y => ?_
  blk_simp
  rw [after0_7, out7]
  refine (pay1 _ _ _ y).trans (((B m c).dzrow t (y 0) _ ?_ _ (fun l => mulGain_dx _ _ _ _ (pay5 _ _ _) _ (ix2 (y 0) l)) (y 1)).trans
    (congrArg ((B m c).dz _) (Fin.ext ?_)))
  · blk_simp [idx t]; try omega
  · blk_simp [idx t]; try simp

/-- The product that follows, after the run. -/
theorem final10 (c : Dev nD) : (dats m 0 c).arrAt 10 cfg0.N
    = fun i : S8192x1024.Idx => ∑ l : Fin 1024, (B m c).dz (i 0) l * m ((c : Thread nD τ).loc main_arg3) (ix2 (i 1) l) := by
  refine (dats m 0 c).arrAt_eq_of_covers 10 _ (by decide +kernel) fun t hf y => ?_
  blk_simp
  rw [after0_10, out10]
  refine (pay2 _ _ _ _ y).trans (Finset.sum_congr rfl fun l _ => congrArg₂ (· * ·)
    ((B m c).dzrow t (y 0) _ ?_ _ (fun l => mulGain_dx _ _ _ _ (pay5 _ _ _) _ (ix2 (y 0) l)) l) ?_)
  · blk_simp [idx t]; try omega
  · blk_ext [iblk, V, idx t]

/-- The gain's gradient after the run. -/
theorem final8 (c : Dev nD) : (dats m 0 c).arrAt 8 cfg0.N
    = fun i : S8x1024.Idx => fold8 (fun r => (B m c).dn r (i 1) * (B m c).nx r (i 1)) (i 0) := by
  refine (dats m 0 c).arrAt_eq_of_covers 8 _ (by decide +kernel) fun t hf y => ?_
  blk_simp
  rw [after0_8]
  exact (B m c).gain N_0 (fun n h => (outsAt0 m c n h).2.1)
    (fun t h i => by rw [out8_A m c t h]; exact (addFold_mul _ _ _ _ (pay5 _ _ _) _ _ i).trans (congrArg (· + _) (pay3 i)))
    (fun t h i => by rw [out8_B m c t h]; exact addFold_mul _ _ _ _ (pay5 _ _ _) _ _ i)
    t ((flush0_8 t).mp hf) y _ _ (by blk_simp [idx t]) (by blk_simp [idx t])

/-- The bias's gradient after the run. -/
theorem final9 (c : Dev nD) : (dats m 0 c).arrAt 9 cfg0.N = fun i : S8x1024.Idx => fold8 (fun r => (B m c).dn r (i 1)) (i 0) := by
  refine (dats m 0 c).arrAt_eq_of_covers 9 _ (by decide +kernel) fun t hf y => ?_
  blk_simp
  rw [after0_9]
  exact (B m c).bias N_0 (fun n h => (outsAt0 m c n h).2.2.1)
    (fun t h i => by rw [out9_A m c t h]; exact (addFold_dx _ _ _ _ (pay5 _ _ _) _ i).trans (congrArg (· + _) (pay4 i)))
    (fun t h i => by rw [out9_B m c t h]; exact addFold_dx _ _ _ _ (pay5 _ _ _) _ i)
    t ((flush0_9 t).mp hf) y _ _ (by blk_simp [idx t]) (by blk_simp [idx t])

end Cert.Kernel5Ideal.Value

end
-- ==== Proof.QBwd.lean ====
/- The gradient through the queries' product, the residual and the first layer normalisation. -/
module

public import proofs.«01_k».proof.Proof.Ff1Bwd
public import proofs.«01_k».proof.Proof.Gen.Kernel14Ideal.Value
public import proofs.«01_k».proof.Proof.Gen.Reference14Ideal.Read

@[expose] public section

set_option maxRecDepth 16384

noncomputable section

namespace Cert.Kernel14Ideal.Value

open Idealize.ShloMosaic Idealize.ShloMosaic.TcCoe Idealize.SL.Sem
open Cert.Kernel14Ideal Cert.Kernel14Ideal.Gen Cert.Ln
open Cert.Kernel5Ideal.Value (mulGain_dx addFold_dx addFold_mul)

/-- The gradient that reaches the normalised values. -/
theorem pay5 (z : Vec Ideal S512x1024 .f32) (a : Vec Ideal S512x1024 .bf16) (w : Vec Ideal S1024x1024 .bf16) (y : S512x1024.Idx) :
    k0_pay5 z a w y = dx z a w (y 0) (y 1) := by
  unfold dx
  pointwise [k0_pay5]

/-- The normalised values are taken as they are. -/
theorem pay6 (x : Vec Ideal S512x1024 .f32) : k0_pay6 x = x := Cert.Kernel5Ideal.Value.pay6 x

variable (m : (ℓ : Loc nD τ sig) → Buf (Elt Ideal) ℓ)

/-- The block indices of the windows at a grid point. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![0, 0] ∧ win0_6.index t = ![0, 0] ∧
    win0_7.index t = ![t.val, 0] ∧ win0_8.index t = ![0, 0] ∧ win0_9.index t = ![0, 0] ∧ win0_10.index t = ![t.val, 0] :=
  (by decide +kernel : ∀ t : Fin grid0.N, _)

/-- A point's rows of the gradient and of the product that follows. -/
theorem rows (c : Dev nD) (t : Fin cfg0.N) :
    (outsAt0 m c t.val t.isLt).1
      = k0_pay1 (iblk m c 3 t) (k0_pay9 (iblk m c 0 t) (iblk m c 1 t) (iblk m c 2 t) (iblk m c 5 t)) (iblk m c 4 t) ∧
    (outsAt0 m c t.val t.isLt).2.2.2 = k0_pay2 (iblk m c 3 t)
      (k0_pay9 (iblk m c 0 t) (iblk m c 1 t) (iblk m c 2 t) (iblk m c 5 t)) (iblk m c 4 t) (iblk m c 6 t) := by
  by_cases h0 : t.val % 16 = 0
  · rw [outsAt0_A m c t h0]; constructor <;> (frame_out; rw [pay6])
  · rw [outsAt0_B m c t h0]; constructor <;> (frame_out; rw [pay6])

/-- The two accumulators after the first point. -/
theorem first (c : Dev nD) (t : Fin cfg0.N) (h0 : t.val % 16 = 0) :
    (outsAt0 m c t.val t.isLt).2.1
      = k0_pay7 (iblk m c 0 t) (iblk m c 1 t) (iblk m c 2 t) (iblk m c 3 t) (k0_pay3 (F := Ideal)) ∧
    (outsAt0 m c t.val t.isLt).2.2.1 = k0_pay8 (iblk m c 0 t) (iblk m c 1 t) (iblk m c 2 t) (k0_pay4 (F := Ideal)) := by
  rw [outsAt0_A m c t h0]
  constructor <;> (frame_open; simp (disch := decide) only [↓ View.readCov_skip, ↓ View.readCov_cons_toLoadRect, ↓ View.readCov_fill]; frame_out)

/-- … and after a later one. -/
theorem later (c : Dev nD) (t : Fin cfg0.N) (h0 : ¬t.val % 16 = 0) :
    (outsAt0 m c t.val t.isLt).2.1 = k0_pay7 (iblk m c 0 t) (iblk m c 1 t) (iblk m c 2 t) (iblk m c 3 t)
      (outsAt0 m c (t.val - 1) (Nat.lt_of_le_of_lt (Nat.sub_le _ _) t.isLt)).2.1 ∧
    (outsAt0 m c t.val t.isLt).2.2.1 = k0_pay8 (iblk m c 0 t) (iblk m c 1 t) (iblk m c 2 t)
      (outsAt0 m c (t.val - 1) (Nat.lt_of_le_of_lt (Nat.sub_le _ _) t.isLt)).2.2.1 := by
  rw [outsAt0_B m c t h0]
  constructor <;> frame_out

/-- What the host prepares: the normalised rows, the reciprocal deviations and the gain's row. -/
theorem host (c : Dev nD) :
    V m c main_v17 = Cert.Reference5Ideal.Read.val_main_v24 (F := Ideal) (m ((c : Thread nD τ).loc main_arg0)) ∧
    V m c main_v13 = Cert.Reference5Ideal.Read.val_main_v19 (F := Ideal) (m ((c : Thread nD τ).loc main_arg0)) ∧
    V m c main_v18 = shapeCast S1x1024 (m ((c : Thread nD τ).loc main_arg1)) shapeCasts_S1024_S1x1024 := by
  refine ⟨?_, ?_, ?_⟩ <;> (unfold V; after_results; try rfl)

/-- The normalised rows' blocks. -/
theorem xrow (c : Dev nD) (t : Fin cfg0.N) (r : Fin 512) (i : Fin 8192) (h : i.val = 512 * t.val + r.val) (k : Fin 1024) :
    iblk m c 3 t (ix2 r k) = xhat (fun k => m ((c : Thread nD τ).loc main_arg0) (ix2 i k)) k := by
  have e : iblk m c 3 t (ix2 r k) = V m c main_v17 (ix2 i k) := by blk_ext [iblk, idx t]
  rw [e, (host m c).1]
  exact Cert.Reference5Ideal.Ln5.v24 _ (ix2 i k)

/-- The reciprocal deviations' blocks. -/
theorem rrow (c : Dev nD) (t : Fin cfg0.N) (r : Fin 512) (i : Fin 8192) (h : i.val = 512 * t.val + r.val) :
    iblk m c 4 t (ix2 r 0) = rs (fun k => m ((c : Thread nD τ).loc main_arg0) (ix2 i k)) := by
  have e : iblk m c 4 t (ix2 r 0) = V m c main_v13 (ix2 i 0) := by blk_ext [iblk, idx t]
  rw [e, (host m c).2.1]
  exact Cert.Reference5Ideal.Ln5.v19 _ (ix2 i 0)

/-- The gain's row. -/
theorem grow (c : Dev nD) (t : Fin cfg0.N) (k : Fin 1024) : iblk m c 5 t (ix2 0 k) = m ((c : Thread nD τ).loc main_arg1) (ix1 k) := by
  have e : iblk m c 5 t (ix2 0 k) = V m c main_v18 (ix2 0 k) := by blk_ext [iblk, idx t]
  rw [e, (host m c).2.2]
  pointwise

set_option maxHeartbeats 1600000 in
/-- The call's arrays and blocks. -/
def B (c : Dev nD) : Blocks cfg0.N 1024 where
  z := m ((c : Thread nD τ).loc main_arg0)
  g := m ((c : Thread nD τ).loc main_arg1)
  w := m ((c : Thread nD τ).loc main_arg2)
  dy := m ((c : Thread nD τ).loc main_arg4)
  a := m ((c : Thread nD τ).loc main_arg5)
  D := iblk m c 0
  A := iblk m c 1
  W := iblk m c 2
  X := iblk m c 3
  R := iblk m c 4
  G := iblk m c 5
  hD t r i h k := by blk_ext [iblk, V, idx t]
  hA t r i h l := by blk_ext [iblk, V, idx t]
  hW t k l := by blk_ext [iblk, V, idx t]
  hX := xrow m c
  hR := rrow m c
  hG := grow m c

/-- The gradient of the rows after the run. -/
theorem final7 (c : Dev nD) : (dats m 0 c).arrAt 7 cfg0.N = fun i : S8192x1024.Idx => (B m c).dz (i 0) (i 1) := by
  refine (dats m 0 c).arrAt_eq_of_covers 7 _ (by decide +kernel) fun t hf y => ?_
  blk_simp
  rw [after0_7, (rows m c t).1]
  refine (Cert.Kernel5Ideal.Value.pay1 _ _ _ y).trans (((B m c).dzrow t (y 0) _ ?_ _
    (fun l => mulGain_dx _ _ _ _ (pay5 _ _ _) _ (ix2 (y 0) l)) (y 1)).trans (congrArg ((B m c).dz _) (Fin.ext ?_)))
  · blk_simp [idx t]; try omega
  · blk_simp [idx t]; try simp

/-- The product that follows, after the run. -/
theorem final10 (c : Dev nD) : (dats m 0 c).arrAt 10 cfg0.N
    = fun i : S8192x1024.Idx => ∑ l : Fin 1024, (B m c).dz (i 0) l * m ((c : Thread nD τ).loc main_arg3) (ix2 (i 1) l) := by
  refine (dats m 0 c).arrAt_eq_of_covers 10 _ (by decide +kernel) fun t hf y => ?_
  blk_simp
  rw [after0_10, (rows m c t).2]
  refine (Cert.Kernel5Ideal.Value.pay2 _ _ _ _ y).trans (Finset.sum_congr rfl fun l _ => congrArg₂ (· * ·)
    ((B m c).dzrow t (y 0) _ ?_ _ (fun l => mulGain_dx _ _ _ _ (pay5 _ _ _) _ (ix2 (y 0) l)) l) ?_)
  · blk_simp [idx t]; try omega
  · blk_ext [iblk, V, idx t]

/-- The gain's gradient after the run. -/
theorem final8 (c : Dev nD) : (dats m 0 c).arrAt 8 cfg0.N
    = fun i : S8x1024.Idx => fold8 (fun r => (B m c).dn r (i 1) * (B m c).nx r (i 1)) (i 0) := by
  refine (dats m 0 c).arrAt_eq_of_covers 8 _ (by decide +kernel) fun t hf y => ?_
  blk_simp
  rw [after0_8]
  exact (B m c).gain N_0 (fun n h => (outsAt0 m c n h).2.1)
    (fun t h i => by
      rw [(first m c t h).1]
      exact (addFold_mul _ _ _ _ (pay5 _ _ _) _ _ i).trans (congrArg (· + _) (Cert.Kernel5Ideal.Value.pay3 i)))
    (fun t h i => by rw [(later m c t h).1]; exact addFold_mul _ _ _ _ (pay5 _ _ _) _ _ i)
    t ((flush0_8 t).mp hf) y _ _ (by blk_simp [idx t]) (by blk_simp [idx t])

/-- The bias's gradient after the run. -/
theorem final9 (c : Dev nD) : (dats m 0 c).arrAt 9 cfg0.N = fun i : S8x1024.Idx => fold8 (fun r => (B m c).dn r (i 1)) (i 0) := by
  refine (dats m 0 c).arrAt_eq_of_covers 9 _ (by decide +kernel) fun t hf y => ?_
  blk_simp
  rw [after0_9]
  exact (B m c).bias N_0 (fun n h => (outsAt0 m c n h).2.2.1)
    (fun t h i => by
      rw [(first m c t h).2]
      exact (addFold_dx _ _ _ _ (pay5 _ _ _) _ i).trans (congrArg (· + _) (Cert.Kernel5Ideal.Value.pay4 i)))
    (fun t h i => by rw [(later m c t h).2]; exact addFold_dx _ _ _ _ (pay5 _ _ _) _ i)
    t ((flush0_9 t).mp hf) y _ _ (by blk_simp [idx t]) (by blk_simp [idx t])

end Cert.Kernel14Ideal.Value

namespace Cert.Reference14Ideal.Ln14

open Idealize.ShloMosaic Idealize.ShloMosaic.TcCoe
open Cert.Reference14Ideal Cert.Reference14Ideal.Gen Cert.Reference14Ideal.Read Cert.Ln
open Cert.Reference5Ideal.Ln5 (bias gain rows)

variable (z : (⟨S8192x1024, .f32⟩ : BufTy).Contents (Elt Ideal)) (g : (⟨S1024, .f32⟩ : BufTy).Contents (Elt Ideal))
  (w : (⟨S1024x1024, .bf16⟩ : BufTy).Contents (Elt Ideal)) (d : (⟨S8192x1024, .f32⟩ : BufTy).Contents (Elt Ideal))
  (a : (⟨S8192x1024, .bf16⟩ : BufTy).Contents (Elt Ideal))

/-- The gradient that reaches the normalised values. -/
theorem v39 (y : S8192x1024.Idx) : val_main_v39 (F := Ideal) w d a y = dx d a w (y 0) (y 1) := by
  unfold dx
  rw [add_comm]
  pointwise [val_main_v39, val_main_v38, val_main_v37, val_main_v36, val_main_v35, val_main_v33, val_main_cst_8]

/-- The bias's gradient. -/
theorem v41 (y : S8x1024.Idx) : val_main_v41 (F := Ideal) w d a y = fold8 (fun r => dx d a w r (y 1)) (y 0) :=
  bias _ w d a (v39 w d a) y

/-- The gain's gradient. -/
theorem v45 (y : S8x1024.Idx) : val_main_v45 (F := Ideal) z w d a y
    = fold8 (fun r => dx d a w r (y 1) * xhat (fun k => z (ix2 r k)) (y 1)) (y 0) :=
  gain z _ w d a (v39 w d a) y

/-- The gradient of the rows. -/
theorem v69 (hu : ∀ i k, dx d a w i k * g (ix1 k) ≠ ⊤ ∧ dx d a w i k * g (ix1 k) ≠ ⊥) (y : S8192x1024.Idx) :
    val_main_v69 (F := Ideal) z g w d a y
    = dln (xhat fun k => z (ix2 (y 0) k)) (rs fun k => z (ix2 (y 0) k)) (fun k => dx d a w (y 0) k * g (ix1 k)) (y 1) :=
  rows z _ g w d a (v39 w d a) hu y

/-- … and that times the matrix that follows, transposed. -/
theorem v74 (wo : (⟨S1024x1024, .bf16⟩ : BufTy).Contents (Elt Ideal))
    (hu : ∀ i k, dx d a w i k * g (ix1 k) ≠ ⊤ ∧ dx d a w i k * g (ix1 k) ≠ ⊥) (y : S8192x1024.Idx) :
    val_main_v74 (F := Ideal) z g w wo d a y
    = ∑ l : Fin 1024, dln (xhat fun k => z (ix2 (y 0) k)) (rs fun k => z (ix2 (y 0) k)) (fun k => dx d a w (y 0) k * g (ix1 k)) l * wo (ix2 (y 1) l) := by
  refine Eq.trans ?_ (Finset.sum_congr rfl fun l _ => congrArg (· * _) (v69 z g w d a hu (ix2 (y 0) l)))
  pointwise [val_main_v74, val_main_v73, val_main_v71]

end Cert.Reference14Ideal.Ln14

end
-- ==== Proof.InBwd.lean ====
/- The gradient through the mixer's input product, the residual and the third layer normalisation of the layer before. -/
module

public import proofs.«01_k».proof.Proof.Ff1Bwd
public import proofs.«01_k».proof.Proof.Gen.Kernel15Ideal.Value
public import proofs.«01_k».proof.Proof.Gen.Reference15Ideal.Read

@[expose] public section

set_option maxRecDepth 16384

noncomputable section

namespace Cert.Kernel15Ideal.Value

open Idealize.ShloMosaic Idealize.ShloMosaic.TcCoe Idealize.SL.Sem
open Cert.Kernel15Ideal Cert.Kernel15Ideal.Gen Cert.Ln
open Cert.Kernel5Ideal.Value (mulGain_dx addFold_dx addFold_mul)

/-- The gradient that reaches the normalised values. -/
theorem pay4 (z : Vec Ideal S512x1024 .f32) (a : Vec Ideal S512x2432 .bf16) (w : Vec Ideal S1024x2432 .bf16) (y : S512x1024.Idx) :
    k0_pay4 z a w y = dx z a w (y 0) (y 1) := by
  unfold dx
  pointwise [k0_pay4]

/-- The normalised values are taken as they are. -/
theorem pay5 (x : Vec Ideal S512x1024 .f32) : k0_pay5 x = x := Cert.Kernel5Ideal.Value.pay6 x

variable (m : (ℓ : Loc nD τ sig) → Buf (Elt Ideal) ℓ)

/-- The block indices of the windows at a grid point. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![0, 0] ∧
    win0_6.index t = ![t.val, 0] ∧ win0_7.index t = ![0, 0] ∧ win0_8.index t = ![0, 0] :=
  (by decide +kernel : ∀ t : Fin grid0.N, _)

/-- A point's rows of the gradient. -/
theorem rows (c : Dev nD) (t : Fin cfg0.N) : (outsAt0 m c t.val t.isLt).1
    = k0_pay1 (iblk m c 3 t) (k0_pay8 (iblk m c 0 t) (iblk m c 1 t) (iblk m c 2 t) (iblk m c 5 t)) (iblk m c 4 t) := by
  by_cases h0 : t.val % 16 = 0
  · rw [outsAt0_A m c t h0]; frame_out; rw [pay5]
  · rw [outsAt0_B m c t h0]; frame_out; rw [pay5]

/-- The two accumulators after the first point. -/
theorem first (c : Dev nD) (t : Fin cfg0.N) (h0 : t.val % 16 = 0) :
    (outsAt0 m c t.val t.isLt).2.1
      = k0_pay6 (iblk m c 0 t) (iblk m c 1 t) (iblk m c 2 t) (iblk m c 3 t) (k0_pay2 (F := Ideal)) ∧
    (outsAt0 m c t.val t.isLt).2.2 = k0_pay7 (iblk m c 0 t) (iblk m c 1 t) (iblk m c 2 t) (k0_pay3 (F := Ideal)) := by
  rw [outsAt0_A m c t h0]
  constructor <;> (frame_open; simp (disch := decide) only [↓ View.readCov_skip, ↓ View.readCov_cons_toLoadRect, ↓ View.readCov_fill]; frame_out)

/-- … and after a later one. -/
theorem later (c : Dev nD) (t : Fin cfg0.N) (h0 : ¬t.val % 16 = 0) :
    (outsAt0 m c t.val t.isLt).2.1 = k0_pay6 (iblk m c 0 t) (iblk m c 1 t) (iblk m c 2 t) (iblk m c 3 t)
      (outsAt0 m c (t.val - 1) (Nat.lt_of_le_of_lt (Nat.sub_le _ _) t.isLt)).2.1 ∧
    (outsAt0 m c t.val t.isLt).2.2 = k0_pay7 (iblk m c 0 t) (iblk m c 1 t) (iblk m c 2 t)
      (outsAt0 m c (t.val - 1) (Nat.lt_of_le_of_lt (Nat.sub_le _ _) t.isLt)).2.2 := by
  rw [outsAt0_B m c t h0]
  constructor <;> frame_out

/-- What the host prepares: the normalised rows, the reciprocal deviations and the gain's row. -/
theorem host (c : Dev nD) :
    V m c main_v17 = Cert.Reference5Ideal.Read.val_main_v24 (F := Ideal) (m ((c : Thread nD τ).loc main_arg0)) ∧
    V m c main_v13 = Cert.Reference5Ideal.Read.val_main_v19 (F := Ideal) (m ((c : Thread nD τ).loc main_arg0)) ∧
    V m c main_v18 = shapeCast S1x1024 (m ((c : Thread nD τ).loc main_arg1)) shapeCasts_S1024_S1x1024 := by
  refine ⟨?_, ?_, ?_⟩ <;> (unfold V; after_results; try rfl)

/-- The normalised rows' blocks. -/
theorem xrow (c : Dev nD) (t : Fin cfg0.N) (r : Fin 512) (i : Fin 8192) (h : i.val = 512 * t.val + r.val) (k : Fin 1024) :
    iblk m c 3 t (ix2 r k) = xhat (fun k => m ((c : Thread nD τ).loc main_arg0) (ix2 i k)) k := by
  have e : iblk m c 3 t (ix2 r k) = V m c main_v17 (ix2 i k) := by blk_ext [iblk, idx t]
  rw [e, (host m c).1]
  exact Cert.Reference5Ideal.Ln5.v24 _ (ix2 i k)

/-- The reciprocal deviations' blocks. -/
theorem rrow (c : Dev nD) (t : Fin cfg0.N) (r : Fin 512) (i : Fin 8192) (h : i.val = 512 * t.val + r.val) :
    iblk m c 4 t (ix2 r 0) = rs (fun k => m ((c : Thread nD τ).loc main_arg0) (ix2 i k)) := by
  have e : iblk m c 4 t (ix2 r 0) = V m c main_v13 (ix2 i 0) := by blk_ext [iblk, idx t]
  rw [e, (host m c).2.1]
  exact Cert.Reference5Ideal.Ln5.v19 _ (ix2 i 0)

/-- The gain's row. -/
theorem grow (c : Dev nD) (t : Fin cfg0.N) (k : Fin 1024) : iblk m c 5 t (ix2 0 k) = m ((c : Thread nD τ).loc main_arg1) (ix1 k) := by
  have e : iblk m c 5 t (ix2 0 k) = V m c main_v18 (ix2 0 k) := by blk_ext [iblk, idx t]
  rw [e, (host m c).2.2]
  pointwise

set_option maxHeartbeats 1600000 in
/-- The call's arrays and blocks. -/
def B (c : Dev nD) : Blocks cfg0.N 2432 where
  z := m ((c : Thread nD τ).loc main_arg0)
  g := m ((c : Thread nD τ).loc main_arg1)
  w := m ((c : Thread nD τ).loc main_arg2)
  dy := m ((c : Thread nD τ).loc main_arg3)
  a := m ((c : Thread nD τ).loc main_arg4)
  D := iblk m c 0
  A := iblk m c 1
  W := iblk m c 2
  X := iblk m c 3
  R := iblk m c 4
  G := iblk m c 5
  hD t r i h k := by blk_ext [iblk, V, idx t]
  hA t r i h l := by blk_ext [iblk, V, idx t]
  hW t k l := by blk_ext [iblk, V, idx t]
  hX := xrow m c
  hR := rrow m c
  hG := grow m c

/-- The gradient of the rows after the run. -/
theorem final6 (c : Dev nD) : (dats m 0 c).arrAt 6 cfg0.N = fun i : S8192x1024.Idx => (B m c).dz (i 0) (i 1) := by
  refine (dats m 0 c).arrAt_eq_of_covers 6 _ (by decide +kernel) fun t hf y => ?_
  blk_simp
  rw [after0_6, rows m c t]
  refine (Cert.Kernel5Ideal.Value.pay1 _ _ _ y).trans (((B m c).dzrow t (y 0) _ ?_ _
    (fun l => mulGain_dx _ _ _ _ (pay4 _ _ _) _ (ix2 (y 0) l)) (y 1)).trans (congrArg ((B m c).dz _) (Fin.ext ?_)))
  · blk_simp [idx t]; try omega
  · blk_simp [idx t]; try simp

/-- The gain's gradient after the run. -/
theorem final7 (c : Dev nD) : (dats m 0 c).arrAt 7 cfg0.N
    = fun i : S8x1024.Idx => fold8 (fun r => (B m c).dn r (i 1) * (B m c).nx r (i 1)) (i 0) := by
  refine (dats m 0 c).arrAt_eq_of_covers 7 _ (by decide +kernel) fun t hf y => ?_
  blk_simp
  rw [after0_7]
  exact (B m c).gain N_0 (fun n h => (outsAt0 m c n h).2.1)
    (fun t h i => by
      rw [(first m c t h).1]
      exact (addFold_mul _ _ _ _ (pay4 _ _ _) _ _ i).trans (congrArg (· + _) (Cert.Kernel5Ideal.Value.pay3 i)))
    (fun t h i => by rw [(later m c t h).1]; exact addFold_mul _ _ _ _ (pay4 _ _ _) _ _ i)
    t ((flush0_7 t).mp hf) y _ _ (by blk_simp [idx t]) (by blk_simp [idx t])

/-- The bias's gradient after the run. -/
theorem final8 (c : Dev nD) : (dats m 0 c).arrAt 8 cfg0.N = fun i : S8x1024.Idx => fold8 (fun r => (B m c).dn r (i 1)) (i 0) := by
  refine (dats m 0 c).arrAt_eq_of_covers 8 _ (by decide +kernel) fun t hf y => ?_
  blk_simp
  rw [after0_8]
  exact (B m c).bias N_0 (fun n h => (outsAt0 m c n h).2.2)
    (fun t h i => by
      rw [(first m c t h).2]
      exact (addFold_dx _ _ _ _ (pay4 _ _ _) _ i).trans (congrArg (· + _) (Cert.Kernel5Ideal.Value.pay4 i)))
    (fun t h i => by rw [(later m c t h).2]; exact addFold_dx _ _ _ _ (pay4 _ _ _) _ i)
    t ((flush0_8 t).mp hf) y _ _ (by blk_simp [idx t]) (by blk_simp [idx t])

end Cert.Kernel15Ideal.Value

namespace Cert.Reference15Ideal.Ln15

open Idealize.ShloMosaic Idealize.ShloMosaic.TcCoe
open Cert.Reference15Ideal Cert.Reference15Ideal.Gen Cert.Reference15Ideal.Read Cert.Ln
open Cert.Reference5Ideal.Ln5 (bias gain rows)

variable (z : (⟨S8192x1024, .f32⟩ : BufTy).Contents (Elt Ideal)) (g : (⟨S1024, .f32⟩ : BufTy).Contents (Elt Ideal))
  (w : (⟨S1024x2432, .bf16⟩ : BufTy).Contents (Elt Ideal)) (d : (⟨S8192x1024, .f32⟩ : BufTy).Contents (Elt Ideal))
  (a : (⟨S8192x2432, .bf16⟩ : BufTy).Contents (Elt Ideal))

/-- The gradient that reaches the normalised values. -/
theorem v39 (y : S8192x1024.Idx) : val_main_v39 (F := Ideal) w d a y = dx d a w (y 0) (y 1) := by
  unfold dx
  rw [add_comm]
  pointwise [val_main_v39, val_main_v38, val_main_v37, val_main_v36, val_main_v35, val_main_v33, val_main_cst_8]

/-- The bias's gradient. -/
theorem v41 (y : S8x1024.Idx) : val_main_v41 (F := Ideal) w d a y = fold8 (fun r => dx d a w r (y 1)) (y 0) :=
  bias _ w d a (v39 w d a) y

/-- The gain's gradient. -/
theorem v45 (y : S8x1024.Idx) : val_main_v45 (F := Ideal) z w d a y
    = fold8 (fun r => dx d a w r (y 1) * xhat (fun k => z (ix2 r k)) (y 1)) (y 0) :=
  gain z _ w d a (v39 w d a) y

/-- The gradient of the rows. -/
theorem v69 (hu : ∀ i k, dx d a w i k * g (ix1 k) ≠ ⊤ ∧ dx d a w i k * g (ix1 k) ≠ ⊥) (y : S8192x1024.Idx) :
    val_main_v69 (F := Ideal) z g w d a y
    = dln (xhat fun k => z (ix2 (y 0) k)) (rs fun k => z (ix2 (y 0) k)) (fun k => dx d a w (y 0) k * g (ix1 k)) (y 1) :=
  rows z _ g w d a (v39 w d a) hu y

end Cert.Reference15Ideal.Ln15

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Ff2Bwd
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ff2Wgrad
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Ff1Wgrad
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.OProj
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Ff2Fwd
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MixOut
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.InProj
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.InWgrad
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.InProj
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.OWgrad
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.QWgrad
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.LnBwdPre
public import proofs.«01_k».proof.Proof.AdamJoin
public import proofs.«01_k».proof.Proof.LayersJoin
public import proofs.«01_k».proof.Proof.QBwd
public import proofs.«01_k».proof.Proof.InBwd
public import proofs.«01_k».proof.Proof.AttnPre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's frame at the words. -/
theorem frameK : Cert.quiescent_Kernel := fun m ρ _ => Cert.Kernel.Gen.frame m ρ

/-- The kernel's frame on the extended reals. -/
theorem frameKI : Cert.quiescent_KernelIdeal := fun m ρ _ => Cert.KernelIdeal.Gen.frame m ρ

/-- … and where the precondition holds. -/
theorem frameKIp : Cert.quiescent_KernelIdeal_pre_finite := fun m ρ _ => Cert.KernelIdeal.Gen.frame m ρ

set_option maxHeartbeats 1600000 in
/-- The reference's frame. -/
theorem frameRI : Cert.quiescent_ReferenceIdeal := fun m g _ =>
  frame_of (by decide) (Cert.ReferenceIdeal.Value.run m g) fun _ _ h => h.2.2

set_option maxHeartbeats 1600000 in
/-- … and where the precondition holds. -/
theorem frameRIp : Cert.quiescent_ReferenceIdeal_pre_finite := fun m g _ =>
  frame_of (by decide) (Cert.ReferenceIdeal.Value.run m g) fun _ _ h => h.2.2

set_option maxHeartbeats 1600000 in
/-- Where queries and keys are finite, the kernel's gradients are the reference's. -/
theorem algebraic : Cert.algebraic_KernelIdeal_ReferenceIdeal_pre_finite := by
  pair_intro
  · run_from Cert.KernelIdeal.Gen.run_main m g
  · run_from Cert.ReferenceIdeal.Value.run m' g'
    · rw [Cert.ReferenceIdeal.Read.val_main_v73_eq, (hagree c).1, (hagree c).2.1, (hagree c).2.2,
        Cert.ReferenceIdeal.Attn.v73 _ _ _ (Cert.Pre_finite.finite _ _ _ (hpre c))]
      exact (Cert.KernelIdeal.Value.finalQ m c).symm
    · rw [Cert.ReferenceIdeal.Read.val_main_v71_eq, (hagree c).1, (hagree c).2.1, (hagree c).2.2,
        Cert.ReferenceIdeal.Attn.v71 _ _ _ (Cert.Pre_finite.finite _ _ _ (hpre c))]
      exact (Cert.KernelIdeal.Value.finalKV m c).symm

/-- The frame of the hidden layer's gradient, at the words. -/
theorem frameK2 : Cert.quiescent_Kernel2 := fun m ρ _ => Cert.Kernel2.Gen.frame m ρ

/-- … and on the extended reals. -/
theorem frameKI2 : Cert.quiescent_Kernel2Ideal := fun m ρ _ => Cert.Kernel2Ideal.Gen.frame m ρ

set_option maxHeartbeats 1600000 in
/-- The reference's frame. -/
theorem frameRI2 : Cert.quiescent_Reference2Ideal := fun m g _ =>
  frame_of (by decide) (Cert.Reference2Ideal.Value.run m g) fun _ _ h => h.2

set_option maxHeartbeats 1600000 in
set_option maxRecDepth 16384 in
/-- The hidden layer's gradient is the reference's. -/
theorem algebraic2 : Cert.algebraic_Kernel2Ideal_Reference2Ideal := by
  pair_intro
  · run_from Cert.Kernel2Ideal.Gen.run_main m g
  · run_from Cert.Reference2Ideal.Value.run m' g'
    rw [Cert.Reference2Ideal.Read.val_main_v14_eq]
    try rw [(hagree c).1, (hagree c).2.1, (hagree c).2.2]
    exact (Cert.Reference2Ideal.Ff.v14 _ _ _).trans (Cert.Kernel2Ideal.Value.final m c).symm

/-- The frame of the second weight's gradient, at the words. -/
theorem frameK3 : Cert.quiescent_Kernel3 := fun m ρ _ => Cert.Kernel3.Gen.frame m ρ

/-- … and on the extended reals. -/
theorem frameKI3 : Cert.quiescent_Kernel3Ideal := fun m ρ _ => Cert.Kernel3Ideal.Gen.frame m ρ

set_option maxHeartbeats 1600000 in
/-- The reference's frame. -/
theorem frameRI3 : Cert.quiescent_Reference3Ideal := fun m g _ =>
  frame_of (by decide) (Cert.Reference3Ideal.Value.run m g) fun _ _ h => h.2

set_option maxHeartbeats 1600000 in
set_option maxRecDepth 16384 in
/-- The second weight's gradient is the reference's. -/
theorem algebraic3 : Cert.algebraic_Kernel3Ideal_Reference3Ideal := by
  pair_intro
  · run_from Cert.Kernel3Ideal.Gen.run_main m g
  · run_from Cert.Reference3Ideal.Value.run m' g'
    rw [Cert.Reference3Ideal.Read.val_main_v6_eq]
    try rw [(hagree c).1, (hagree c).2]
    exact (Cert.Reference3Ideal.Ff.v6 _ _).trans (Cert.Kernel3Ideal.Value.final m c).symm

/-- The frame of the first weight's gradient, at the words. -/
theorem frameK4 : Cert.quiescent_Kernel4 := fun m ρ _ => Cert.Kernel4.Gen.frame m ρ

/-- … and on the extended reals. -/
theorem frameKI4 : Cert.quiescent_Kernel4Ideal := fun m ρ _ => Cert.Kernel4Ideal.Gen.frame m ρ

set_option maxHeartbeats 1600000 in
/-- The reference's frame. -/
theorem frameRI4 : Cert.quiescent_Reference4Ideal := fun m g _ =>
  frame_of (by decide) (Cert.Reference4Ideal.Value.run m g) fun _ _ h => h.2

set_option maxHeartbeats 1600000 in
set_option maxRecDepth 16384 in
/-- The first weight's gradient is the reference's. -/
theorem algebraic4 : Cert.algebraic_Kernel4Ideal_Reference4Ideal := by
  pair_intro
  · run_from Cert.Kernel4Ideal.Gen.run_main m g
  · run_from Cert.Reference4Ideal.Value.run m' g'
    rw [Cert.Reference4Ideal.Read.val_main_v6_eq]
    try rw [(hagree c).1, (hagree c).2]
    exact (Cert.Reference4Ideal.Ff.v6 _ _).trans (Cert.Kernel4Ideal.Value.final m c).symm

/-- The frame of the output projection's call, at the words. -/
theorem frameK6 : Cert.quiescent_Kernel6 := fun m ρ _ => Cert.Kernel6.Gen.frame m ρ

/-- … and on the extended reals. -/
theorem frameKI6 : Cert.quiescent_Kernel6Ideal := fun m ρ _ => Cert.Kernel6Ideal.Gen.frame m ρ

set_option maxHeartbeats 1600000 in
/-- The reference's frame. -/
theorem frameRI6 : Cert.quiescent_Reference6Ideal := fun m g _ =>
  frame_of (by decide) (Cert.Reference6Ideal.Value.run m g) fun _ _ h => h.2.2.2.2

set_option maxHeartbeats 1600000 in
set_option maxRecDepth 16384 in
/-- The block's output, its normalised residual, the reciprocal standard deviations and the hidden layer are the reference's. -/
theorem algebraic6 : Cert.algebraic_Kernel6Ideal_Reference6Ideal := by
  pair_intro
  · run_from Cert.Kernel6Ideal.Gen.run_main m g
  · run_from Cert.Reference6Ideal.Value.run m' g'
    · rw [Cert.Reference6Ideal.Read.val_main_v29_eq]
      try rw [(hagree c).1, (hagree c).2.1, (hagree c).2.2.1, (hagree c).2.2.2.1, (hagree c).2.2.2.2.1]
      exact (funext (Cert.Reference6Ideal.Ln6.v29 _ _ _ _ _)).trans (Cert.Kernel6Ideal.Value.final6 m c).symm
    · rw [Cert.Reference6Ideal.Read.val_main_v33_eq]
      try rw [(hagree c).1, (hagree c).2.1, (hagree c).2.2.1]
      exact (funext (Cert.Reference6Ideal.Ln6.v33 _ _ _)).trans (Cert.Kernel6Ideal.Value.final7 m c).symm
    · rw [Cert.Reference6Ideal.Read.val_main_v19_eq]
      try rw [(hagree c).1, (hagree c).2.1, (hagree c).2.2.1]
      exact (funext (Cert.Reference6Ideal.Ln6.v19 _ _ _)).trans (Cert.Kernel6Ideal.Value.final8 m c).symm
    · rw [Cert.Reference6Ideal.Read.val_main_v36_eq]
      try rw [(hagree c).1, (hagree c).2.1, (hagree c).2.2.1, (hagree c).2.2.2.1, (hagree c).2.2.2.2.1, (hagree c).2.2.2.2.2]
      exact (funext (Cert.Reference6Ideal.Ln6.v36 _ _ _ _ _ _)).trans (Cert.Kernel6Ideal.Value.final9 m c).symm

/-- The frame of the second feed-forward product's call, at the words. -/
theorem frameK7 : Cert.quiescent_Kernel7 := fun m ρ _ => Cert.Kernel7.Gen.frame m ρ

/-- … and on the extended reals. -/
theorem frameKI7 : Cert.quiescent_Kernel7Ideal := fun m ρ _ => Cert.Kernel7Ideal.Gen.frame m ρ

set_option maxHeartbeats 1600000 in
/-- The reference's frame. -/
theorem frameRI7 : Cert.quiescent_Reference7Ideal := fun m g _ =>
  frame_of (by decide) (Cert.Reference7Ideal.Value.run m g) fun _ _ h => h.2.2.2

set_option maxHeartbeats 1600000 in
set_option maxRecDepth 16384 in
/-- The block's output, its normalised residual and the reciprocal standard deviations are the reference's. -/
theorem algebraic7 : Cert.algebraic_Kernel7Ideal_Reference7Ideal := by
  pair_intro
  · run_from Cert.Kernel7Ideal.Gen.run_main m g
  · run_from Cert.Reference7Ideal.Value.run m' g'
    · rw [Cert.Reference7Ideal.Read.val_main_v31_eq]
      try rw [(hagree c).1, (hagree c).2.1, (hagree c).2.2.1, (hagree c).2.2.2.1, (hagree c).2.2.2.2]
      exact (funext (Cert.Reference7Ideal.Ln7.v31 _ _ _ _ _)).trans (Cert.Kernel7Ideal.Value.final5 m c).symm
    · rw [Cert.Reference7Ideal.Read.val_main_v35_eq]
      try rw [(hagree c).1, (hagree c).2.1, (hagree c).2.2.1]
      exact (funext (Cert.Reference7Ideal.Ln7.v35 _ _ _)).trans (Cert.Kernel7Ideal.Value.final6 m c).symm
    · rw [Cert.Reference7Ideal.Read.val_main_v21_eq]
      try rw [(hagree c).1, (hagree c).2.1, (hagree c).2.2.1]
      exact (funext (Cert.Reference7Ideal.Ln7.v21 _ _ _)).trans (Cert.Kernel7Ideal.Value.final7 m c).symm

/-- The frame of the mixer's output projection's call, at the words. -/
theorem frameK8 : Cert.quiescent_Kernel8 := fun m ρ _ => Cert.Kernel8.Gen.frame m ρ

/-- … and on the extended reals. -/
theorem frameKI8 : Cert.quiescent_Kernel8Ideal := fun m ρ _ => Cert.Kernel8Ideal.Gen.frame m ρ

set_option maxHeartbeats 1600000 in
/-- The reference's frame. -/
theorem frameRI8 : Cert.quiescent_Reference8Ideal := fun m g _ =>
  frame_of (by decide) (Cert.Reference8Ideal.Value.run m g) fun _ _ h => h.2.2.2.2

set_option maxHeartbeats 1600000 in
set_option maxRecDepth 16384 in
/-- The block's output, its normalised residual, the reciprocal standard deviations and the queries are the reference's. -/
theorem algebraic8 : Cert.algebraic_Kernel8Ideal_Reference8Ideal := by
  pair_intro
  · run_from Cert.Kernel8Ideal.Gen.run_main m g
  · run_from Cert.Reference8Ideal.Value.run m' g'
    · rw [Cert.Reference8Ideal.Read.val_main_v29_eq]
      try rw [(hagree c).1, (hagree c).2.1, (hagree c).2.2.1, (hagree c).2.2.2.1, (hagree c).2.2.2.2.1]
      exact (funext (Cert.Reference8Ideal.Ln8.v29 _ _ _ _ _)).trans (Cert.Kernel8Ideal.Value.final6 m c).symm
    · rw [Cert.Reference8Ideal.Read.val_main_v33_eq]
      try rw [(hagree c).1, (hagree c).2.1, (hagree c).2.2.1]
      exact (funext (Cert.Reference8Ideal.Ln8.v33 _ _ _)).trans (Cert.Kernel8Ideal.Value.final7 m c).symm
    · rw [Cert.Reference8Ideal.Read.val_main_v19_eq]
      try rw [(hagree c).1, (hagree c).2.1, (hagree c).2.2.1]
      exact (funext (Cert.Reference8Ideal.Ln8.v19 _ _ _)).trans (Cert.Kernel8Ideal.Value.final8 m c).symm
    · rw [Cert.Reference8Ideal.Read.val_main_v36_eq]
      try rw [(hagree c).1, (hagree c).2.1, (hagree c).2.2.1, (hagree c).2.2.2.1, (hagree c).2.2.2.2.1, (hagree c).2.2.2.2.2]
      exact (funext (Cert.Reference8Ideal.Ln8.v36 _ _ _ _ _ _)).trans (Cert.Kernel8Ideal.Value.final9 m c).symm

/-- The frame of the mixer's input product, at the words. -/
theorem frameK9 : Cert.quiescent_Kernel9 := fun m ρ _ => Cert.Kernel9.Gen.frame m ρ

/-- … and on the extended reals. -/
theorem frameKI9 : Cert.quiescent_Kernel9Ideal := fun m ρ _ => Cert.Kernel9Ideal.Gen.frame m ρ

set_option maxHeartbeats 1600000 in
/-- The reference's frame. -/
theorem frameRI9 : Cert.quiescent_Reference9Ideal := fun m g _ =>
  frame_of (by decide) (Cert.Reference9Ideal.Value.run m g) fun _ _ h => h.2

set_option maxHeartbeats 1600000 in
set_option maxRecDepth 16384 in
/-- The input product is the reference's. -/
theorem algebraic9 : Cert.algebraic_Kernel9Ideal_Reference9Ideal := by
  pair_intro
  · run_from Cert.Kernel9Ideal.Gen.run_main m g
  · run_from Cert.Reference9Ideal.Value.run m' g'
    rw [Cert.Reference9Ideal.Read.val_main_v2_eq]
    try rw [(hagree c).1, (hagree c).2]
    exact (Cert.Reference9Ideal.InProj.v2 _ _).trans (Cert.Kernel9Ideal.Value.final m c).symm

/-- The frame of the input matrix's gradient, at the words. -/
theorem frameK10 : Cert.quiescent_Kernel10 := fun m ρ _ => Cert.Kernel10.Gen.frame m ρ

/-- … and on the extended reals. -/
theorem frameKI10 : Cert.quiescent_Kernel10Ideal := fun m ρ _ => Cert.Kernel10Ideal.Gen.frame m ρ

set_option maxHeartbeats 1600000 in
/-- The reference's frame. -/
theorem frameRI10 : Cert.quiescent_Reference10Ideal := fun m g _ =>
  frame_of (by decide) (Cert.Reference10Ideal.Value.run m g) fun _ _ h => h.2

set_option maxHeartbeats 1600000 in
set_option maxRecDepth 16384 in
/-- The input matrix's gradient is the reference's. -/
theorem algebraic10 : Cert.algebraic_Kernel10Ideal_Reference10Ideal := by
  pair_intro
  · run_from Cert.Kernel10Ideal.Gen.run_main m g
  · run_from Cert.Reference10Ideal.Value.run m' g'
    rw [Cert.Reference10Ideal.Read.val_main_v4_eq]
    try rw [(hagree c).1, (hagree c).2]
    exact (Cert.Reference10Ideal.Wg.v4 _ _).trans (Cert.Kernel10Ideal.Value.final m c).symm

/-- The frame of the gradient of the layer's input, at the words. -/
theorem frameK11 : Cert.quiescent_Kernel11 := fun m ρ _ => Cert.Kernel11.Gen.frame m ρ

/-- … and on the extended reals. -/
theorem frameKI11 : Cert.quiescent_Kernel11Ideal := fun m ρ _ => Cert.Kernel11Ideal.Gen.frame m ρ

set_option maxHeartbeats 1600000 in
/-- The reference's frame. -/
theorem frameRI11 : Cert.quiescent_Reference11Ideal := fun m g _ =>
  frame_of (by decide) (Cert.Reference11Ideal.Value.run m g) fun _ _ h => h.2

set_option maxHeartbeats 1600000 in
set_option maxRecDepth 16384 in
/-- The gradient of the layer's input is the reference's. -/
theorem algebraic11 : Cert.algebraic_Kernel11Ideal_Reference11Ideal := by
  pair_intro
  · run_from Cert.Kernel11Ideal.Gen.run_main m g
  · run_from Cert.Reference11Ideal.Value.run m' g'
    rw [Cert.Reference11Ideal.Read.val_main_v9_eq]
    try rw [(hagree c).1, (hagree c).2.1, (hagree c).2.2]
    exact (Cert.Reference11Ideal.InProj.v9 _ _ _).trans (Cert.Kernel11Ideal.Value.final m c).symm

/-- The frame of the output matrices' gradient, at the words. -/
theorem frameK12 : Cert.quiescent_Kernel12 := fun m ρ _ => Cert.Kernel12.Gen.frame m ρ

/-- … and on the extended reals. -/
theorem frameKI12 : Cert.quiescent_Kernel12Ideal := fun m ρ _ => Cert.Kernel12Ideal.Gen.frame m ρ

set_option maxHeartbeats 1600000 in
/-- The reference's frame. -/
theorem frameRI12 : Cert.quiescent_Reference12Ideal := fun m g _ =>
  frame_of (by decide) (Cert.Reference12Ideal.Value.run m g) fun _ _ h => h.2

set_option maxHeartbeats 1600000 in
set_option maxRecDepth 16384 in
/-- The gradient of an output matrix is the reference's. -/
theorem algebraic12 : Cert.algebraic_Kernel12Ideal_Reference12Ideal := by
  pair_intro
  · run_from Cert.Kernel12Ideal.Gen.run_main m g
  · run_from Cert.Reference12Ideal.Value.run m' g'
    rw [Cert.Reference12Ideal.Read.val_main_v4_eq]
    try rw [(hagree c).1, (hagree c).2]
    exact (Cert.Reference12Ideal.Wg.v4 _ _).trans (Cert.Kernel12Ideal.Value.final m c).symm

/-- The frame of the gradient of the queries' matrix, at the words. -/
theorem frameK13 : Cert.quiescent_Kernel13 := fun m ρ _ => Cert.Kernel13.Gen.frame m ρ

/-- … and on the extended reals. -/
theorem frameKI13 : Cert.quiescent_Kernel13Ideal := fun m ρ _ => Cert.Kernel13Ideal.Gen.frame m ρ

set_option maxHeartbeats 1600000 in
/-- The reference's frame. -/
theorem frameRI13 : Cert.quiescent_Reference13Ideal := fun m g _ =>
  frame_of (by decide) (Cert.Reference13Ideal.Value.run m g) fun _ _ h => h.2

set_option maxHeartbeats 1600000 in
set_option maxRecDepth 16384 in
/-- The gradient of the queries' matrix is the reference's. -/
theorem algebraic13 : Cert.algebraic_Kernel13Ideal_Reference13Ideal := by
  pair_intro
  · run_from Cert.Kernel13Ideal.Gen.run_main m g
  · run_from Cert.Reference13Ideal.Value.run m' g'
    rw [Cert.Reference13Ideal.Read.val_main_v4_eq]
    try rw [(hagree c).1, (hagree c).2]
    exact (Cert.Reference13Ideal.Wg.v4 _ _).trans (Cert.Kernel13Ideal.Value.final m c).symm

/-- The frame of the second layer normalisation's backward call, at the words. -/
theorem frameK5 : Cert.quiescent_Kernel5 := fun m ρ _ => Cert.Kernel5.Gen.frame m ρ

/-- … on the extended reals. -/
theorem frameKI5 : Cert.quiescent_Kernel5Ideal := fun m ρ _ => Cert.Kernel5Ideal.Gen.frame m ρ

/-- … and where the precondition holds. -/
theorem frameKI5p : Cert.quiescent_Kernel5Ideal_pre_finite5 := fun m ρ _ => Cert.Kernel5Ideal.Gen.frame m ρ

set_option maxHeartbeats 1600000 in
/-- The reference's frame. -/
theorem frameRI5 : Cert.quiescent_Reference5Ideal := fun m g _ =>
  frame_of (by decide) (Cert.Reference5Ideal.Value.run m g) fun _ _ h => h.2.2.2.2

/-- … and where the precondition holds. -/
theorem frameRI5p : Cert.quiescent_Reference5Ideal_pre_finite5 := fun m g _ => frameRI5 m g trivial

set_option maxHeartbeats 1600000 in
set_option maxRecDepth 16384 in
/-- Where gain, matrix and gradients are finite, the call's four results are the reference's. -/
theorem algebraic5 : Cert.algebraic_Kernel5Ideal_Reference5Ideal_pre_finite5 := by
  pair_intro
  · run_from Cert.Kernel5Ideal.Gen.run_main m g
  · run_from Cert.Reference5Ideal.Value.run m' g'
    all_goals obtain ⟨e0, e1, e2, e3, e4, e5⟩ := hagree c
    all_goals obtain ⟨h1, h2, h3, h4⟩ := hpre c
    · rw [Cert.Reference5Ideal.Read.val_main_v69_eq]
      try rw [e0, e1, e2, e4, e5]
      exact (funext (Cert.Reference5Ideal.Ln5.v69 _ _ _ _ _ (Cert.Ln.real _ _ _ _ (congrFun h1) (congrFun h2) (congrFun h3)
        (congrFun h4)))).trans (Cert.Kernel5Ideal.Value.final7 m c).symm
    · rw [Cert.Reference5Ideal.Read.val_main_v45_eq]
      try rw [e0, e2, e4, e5]
      exact (funext (Cert.Reference5Ideal.Ln5.v45 _ _ _ _)).trans (Cert.Kernel5Ideal.Value.final8 m c).symm
    · rw [Cert.Reference5Ideal.Read.val_main_v41_eq]
      try rw [e2, e4, e5]
      exact (funext (Cert.Reference5Ideal.Ln5.v41 _ _ _)).trans (Cert.Kernel5Ideal.Value.final9 m c).symm
    · rw [Cert.Reference5Ideal.Read.val_main_v74_eq]
      try rw [e0, e1, e2, e3, e4, e5]
      exact (funext (Cert.Reference5Ideal.Ln5.v74 _ _ _ _ _ _ (Cert.Ln.real _ _ _ _ (congrFun h1) (congrFun h2) (congrFun h3)
        (congrFun h4)))).trans (Cert.Kernel5Ideal.Value.final10 m c).symm

/-- The frame of the first layer normalisation's backward call, at the words. -/
theorem frameK14 : Cert.quiescent_Kernel14 := fun m ρ _ => Cert.Kernel14.Gen.frame m ρ

/-- … on the extended reals. -/
theorem frameKI14 : Cert.quiescent_Kernel14Ideal := fun m ρ _ => Cert.Kernel14Ideal.Gen.frame m ρ

/-- … and where the precondition holds. -/
theorem frameKI14p : Cert.quiescent_Kernel14Ideal_pre_finite14 := fun m ρ _ => Cert.Kernel14Ideal.Gen.frame m ρ

set_option maxHeartbeats 1600000 in
/-- The reference's frame. -/
theorem frameRI14 : Cert.quiescent_Reference14Ideal := fun m g _ =>
  frame_of (by decide) (Cert.Reference14Ideal.Value.run m g) fun _ _ h => h.2.2.2.2

/-- … and where the precondition holds. -/
theorem frameRI14p : Cert.quiescent_Reference14Ideal_pre_finite14 := fun m g _ => frameRI14 m g trivial

set_option maxHeartbeats 1600000 in
set_option maxRecDepth 16384 in
/-- Where gain, matrix and gradients are finite, the call's four results are the reference's. -/
theorem algebraic14 : Cert.algebraic_Kernel14Ideal_Reference14Ideal_pre_finite14 := by
  pair_intro
  · run_from Cert.Kernel14Ideal.Gen.run_main m g
  · run_from Cert.Reference14Ideal.Value.run m' g'
    all_goals obtain ⟨e0, e1, e2, e3, e4, e5⟩ := hagree c
    all_goals obtain ⟨h1, h2, h3, h4⟩ := hpre c
    · rw [Cert.Reference14Ideal.Read.val_main_v69_eq]
      try rw [e0, e1, e2, e4, e5]
      exact (funext (Cert.Reference14Ideal.Ln14.v69 _ _ _ _ _ (Cert.Ln.real _ _ _ _ (congrFun h1) (congrFun h2) (congrFun h3)
        (congrFun h4)))).trans (Cert.Kernel14Ideal.Value.final7 m c).symm
    · rw [Cert.Reference14Ideal.Read.val_main_v45_eq]
      try rw [e0, e2, e4, e5]
      exact (funext (Cert.Reference14Ideal.Ln14.v45 _ _ _ _)).trans (Cert.Kernel14Ideal.Value.final8 m c).symm
    · rw [Cert.Reference14Ideal.Read.val_main_v41_eq]
      try rw [e2, e4, e5]
      exact (funext (Cert.Reference14Ideal.Ln14.v41 _ _ _)).trans (Cert.Kernel14Ideal.Value.final9 m c).symm
    · rw [Cert.Reference14Ideal.Read.val_main_v74_eq]
      try rw [e0, e1, e2, e3, e4, e5]
      exact (funext (Cert.Reference14Ideal.Ln14.v74 _ _ _ _ _ _ (Cert.Ln.real _ _ _ _ (congrFun h1) (congrFun h2) (congrFun h3)
        (congrFun h4)))).trans (Cert.Kernel14Ideal.Value.final10 m c).symm

/-- The frame of the third layer normalisation's backward call, at the words. -/
theorem frameK15 : Cert.quiescent_Kernel15 := fun m ρ _ => Cert.Kernel15.Gen.frame m ρ

/-- … on the extended reals. -/
theorem frameKI15 : Cert.quiescent_Kernel15Ideal := fun m ρ _ => Cert.Kernel15Ideal.Gen.frame m ρ

/-- … and where the precondition holds. -/
theorem frameKI15p : Cert.quiescent_Kernel15Ideal_pre_finite15 := fun m ρ _ => Cert.Kernel15Ideal.Gen.frame m ρ

set_option maxHeartbeats 1600000 in
/-- The reference's frame. -/
theorem frameRI15 : Cert.quiescent_Reference15Ideal := fun m g _ =>
  frame_of (by decide) (Cert.Reference15Ideal.Value.run m g) fun _ _ h => h.2.2.2

/-- … and where the precondition holds. -/
theorem frameRI15p : Cert.quiescent_Reference15Ideal_pre_finite15 := fun m g _ => frameRI15 m g trivial

set_option maxHeartbeats 1600000 in
set_option maxRecDepth 16384 in
/-- Where gain, matrix and gradients are finite, the call's three results are the reference's. -/
theorem algebraic15 : Cert.algebraic_Kernel15Ideal_Reference15Ideal_pre_finite15 := by
  pair_intro
  · run_from Cert.Kernel15Ideal.Gen.run_main m g
  · run_from Cert.Reference15Ideal.Value.run m' g'
    all_goals obtain ⟨e0, e1, e2, e3, e4⟩ := hagree c
    all_goals obtain ⟨h1, h2, h3, h4⟩ := hpre c
    · rw [Cert.Reference15Ideal.Read.val_main_v69_eq]
      try rw [e0, e1, e2, e3, e4]
      exact (funext (Cert.Reference15Ideal.Ln15.v69 _ _ _ _ _ (Cert.Ln.real _ _ _ _ (congrFun h1) (congrFun h2) (congrFun h3)
        (congrFun h4)))).trans (Cert.Kernel15Ideal.Value.final6 m c).symm
    · rw [Cert.Reference15Ideal.Read.val_main_v45_eq]
      try rw [e0, e2, e3, e4]
      exact (funext (Cert.Reference15Ideal.Ln15.v45 _ _ _ _)).trans (Cert.Kernel15Ideal.Value.final7 m c).symm
    · rw [Cert.Reference15Ideal.Read.val_main_v41_eq]
      try rw [e2, e3, e4]
      exact (funext (Cert.Reference15Ideal.Ln15.v41 _ _ _)).trans (Cert.Kernel15Ideal.Value.final8 m c).symm

/-- The certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts,
  Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts,
  Cert.Kernel11Ideal.Gen.facts, Cert.Reference11Ideal.Gen.facts, Cert.Kernel12.Gen.facts, Cert.Kernel12Ideal.Gen.facts,
  Cert.Reference12Ideal.Gen.facts, Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Pre_finite.facts, Cert.Pre_finite5.facts, Cert.Pre_finite14.facts, Cert.Pre_finite15.facts,
  frameK, frameKI, frameKIp, frameRI, frameRIp, frameK2, frameKI2, frameRI2, frameK3, frameKI3, frameRI3, frameK4, frameKI4, frameRI4,
  frameK5, frameKI5, frameKI5p, frameRI5, frameRI5p,
  frameK6, frameKI6, frameRI6, frameK7, frameKI7, frameRI7, frameK8, frameKI8, frameRI8, frameK9, frameKI9, frameRI9, frameK10,
  frameKI10, frameRI10, frameK11, frameKI11, frameRI11, frameK12, frameKI12, frameRI12, frameK13, frameKI13, frameRI13,
  frameK14, frameKI14, frameKI14p, frameRI14, frameRI14p,
  frameK15, frameKI15, frameKI15p, frameRI15, frameRI15p, frameK17, frameKI17, frameRI17, frameK18, frameKI18, frameRI18, trivial,
  algebraic, trivial, algebraic2, trivial, algebraic3, trivial, algebraic4, trivial, algebraic5, trivial, algebraic6, trivial, algebraic7, trivial,
  algebraic8, trivial, algebraic9, trivial, algebraic10, trivial, algebraic11, trivial, algebraic12, trivial, algebraic13,
  trivial, algebraic14, trivial, algebraic15, trivial, algebraic17, trivial, algebraic18⟩

end Cert.Proof

end
